-- ==== Defs.lean ====
def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainIdeal_finite [hPre_finite : Cert.Pre_finite.Facts] (m : (ℓ : Loc Cert.PlainIdeal.nD Cert.PlainIdeal.τ Cert.PlainIdeal.sig) → Buf (Elt Ideal) ℓ) : Prop :=
  ∀ c : Dev Cert.PlainIdeal.nD,
    (Cert.Pre_finite.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2)) (m ((c.tc : Thread Cert.PlainIdeal.nD Cert.PlainIdeal.τ).loc Cert.PlainIdeal.main_arg3)) (m ((c.tc : Thread Cert.PlainIdeal.nD Cert.PlainIdeal.τ).loc Cert.PlainIdeal.main_arg4))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clip_idle [hPre_clip_idle : Cert.Pre_clip_idle.Facts] (m : (ℓ : Loc Cert.KernelIdeal.nD Cert.KernelIdeal.τ Cert.KernelIdeal.sig) → Buf (Elt Ideal) ℓ) : Prop :=
  ∀ c : Dev Cert.KernelIdeal.nD,
    (Cert.Pre_clip_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ReferenceIdeal_clip_idle [hPre_clip_idle : Cert.Pre_clip_idle.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clip_idle.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2)
      ∧ r.2.mem ((c.tc : Thread Cert.Plain.nD Cert.Plain.τ).loc Cert.Plain.main_arg3) = m ((c.tc : Thread Cert.Plain.nD Cert.Plain.τ).loc Cert.Plain.main_arg3)
      ∧ r.2.mem ((c.tc : Thread Cert.Plain.nD Cert.Plain.τ).loc Cert.Plain.main_arg4) = m ((c.tc : Thread Cert.Plain.nD Cert.Plain.τ).loc Cert.Plain.main_arg4))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ r.2.sem = fun _ => 0)

def quiescent_PlainIdeal_pre_finite [hPlainIdeal : Cert.PlainIdeal.Facts] [hPre_finite : Cert.Pre_finite.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal_finite m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_clip_idle [hKernelIdeal : Cert.KernelIdeal.Facts] [hPre_clip_idle : Cert.Pre_clip_idle.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clip_idle m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_clip_idle [hReferenceIdeal : Cert.ReferenceIdeal.Facts] [hPre_clip_idle : Cert.Pre_clip_idle.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clip_idle m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Plain_PlainIdeal : Prop :=
  IdealRules.named_const.Statement Cert.PlainIdeal.κ "inv_n" .f32 0x3727C5AC#32 ((1 / 100000 : ℝ) : EReal)

def preserves_Kernel_KernelIdeal : Prop :=
  IdealRules.named_const.Statement Cert.KernelIdeal.κ "inv_n" .f32 0x3727C5AC#32 ((1 / 100000 : ℝ) : EReal)
  ∧ IdealRules.named_const.Statement Cert.KernelIdeal.κ "inv_log_b" .f32 0x3E76384F#32 (((Real.log 64)⁻¹ : ℝ) : EReal)

def algebraic_PlainIdeal_ReferenceIdeal_pre_finite [hPlainIdeal : Cert.PlainIdeal.Facts] [hReferenceIdeal : Cert.ReferenceIdeal.Facts] [hPre_finite : Cert.Pre_finite.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_PlainIdeal_finite m →
    (∀ c : Dev Cert.PlainIdeal.nD,
      m' ((c.tc : Thread Cert.ReferenceIdeal.nD Cert.ReferenceIdeal.τ).loc Cert.ReferenceIdeal.main_arg0) = m ((c.tc : Thread Cert.PlainIdeal.nD Cert.PlainIdeal.τ).loc Cert.PlainIdeal.main_arg0)
      ∧ m' ((c.tc : Thread Cert.ReferenceIdeal.nD Cert.ReferenceIdeal.τ).loc Cert.ReferenceIdeal.main_arg1) = m ((c.tc : Thread Cert.PlainIdeal.nD Cert.PlainIdeal.τ).loc Cert.PlainIdeal.main_arg1)
      ∧ m' ((c.tc : Thread Cert.ReferenceIdeal.nD Cert.ReferenceIdeal.τ).loc Cert.ReferenceIdeal.main_arg2) = m ((c.tc : Thread Cert.PlainIdeal.nD Cert.PlainIdeal.τ).loc Cert.PlainIdeal.main_arg2)
      ∧ m' ((c.tc : Thread Cert.ReferenceIdeal.nD Cert.ReferenceIdeal.τ).loc Cert.ReferenceIdeal.main_arg3) = m ((c.tc : Thread Cert.PlainIdeal.nD Cert.PlainIdeal.τ).loc Cert.PlainIdeal.main_arg3)
      ∧ m' ((c.tc : Thread Cert.ReferenceIdeal.nD Cert.ReferenceIdeal.τ).loc Cert.ReferenceIdeal.main_arg4) = m ((c.tc : Thread Cert.PlainIdeal.nD Cert.PlainIdeal.τ).loc Cert.PlainIdeal.main_arg4)) →
    ∃ (v0 : (c : Dev Cert.PlainIdeal.nD) → Buf (Elt Ideal) ((c.tc : Thread Cert.PlainIdeal.nD Cert.PlainIdeal.τ).loc Cert.PlainIdeal.main_v0_0)) (v1 : (c : Dev Cert.PlainIdeal.nD) → Buf (Elt Ideal) ((c.tc : Thread Cert.PlainIdeal.nD Cert.PlainIdeal.τ).loc Cert.PlainIdeal.main_v0_1)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v0_0) = v0 c
          ∧ r.2.mem ((c.tc : Thread Cert.PlainIdeal.nD Cert.PlainIdeal.τ).loc Cert.PlainIdeal.main_v0_1) = v1 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
          ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceIdeal_pre_clip_idle [hKernelIdeal : Cert.KernelIdeal.Facts] [hReferenceIdeal : Cert.ReferenceIdeal.Facts] [hPre_clip_idle : Cert.Pre_clip_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clip_idle m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hPlain : Cert.Plain.Facts) (hPlainIdeal : Cert.PlainIdeal.Facts) (hKernel : Cert.Kernel.Facts) (hKernelIdeal : Cert.KernelIdeal.Facts) (hReferenceIdeal : Cert.ReferenceIdeal.Facts) (hPre_finite : Cert.Pre_finite.Facts) (hPre_clip_idle : Cert.Pre_clip_idle.Facts),
    quiescent_Plain (hPlain := hPlain)
    ∧ quiescent_PlainIdeal (hPlainIdeal := hPlainIdeal)
    ∧ quiescent_PlainIdeal_pre_finite (hPlainIdeal := hPlainIdeal) (hPre_finite := hPre_finite)
    ∧ quiescent_Kernel (hKernel := hKernel)
    ∧ quiescent_KernelIdeal (hKernelIdeal := hKernelIdeal)
    ∧ quiescent_KernelIdeal_pre_clip_idle (hKernelIdeal := hKernelIdeal) (hPre_clip_idle := hPre_clip_idle)
    ∧ quiescent_ReferenceIdeal (hReferenceIdeal := hReferenceIdeal)
    ∧ quiescent_ReferenceIdeal_pre_finite (hReferenceIdeal := hReferenceIdeal) (hPre_finite := hPre_finite)
    ∧ quiescent_ReferenceIdeal_pre_clip_idle (hReferenceIdeal := hReferenceIdeal) (hPre_clip_idle := hPre_clip_idle)
    ∧ preserves_Plain_PlainIdeal
    ∧ preserves_Kernel_KernelIdeal
    ∧ algebraic_PlainIdeal_ReferenceIdeal_pre_finite (hPlainIdeal := hPlainIdeal) (hReferenceIdeal := hReferenceIdeal) (hPre_finite := hPre_finite)
    ∧ algebraic_KernelIdeal_ReferenceIdeal_pre_clip_idle (hKernelIdeal := hKernelIdeal) (hReferenceIdeal := hReferenceIdeal) (hPre_clip_idle := hPre_clip_idle)
-- ==== Pre_clip_idle.lean ====
abbrev S100000x128 : Shape := ⟨2, ![100000, 128]⟩
abbrev S100000x64 : Shape := ⟨2, ![100000, 64]⟩
abbrev S128x128 : Shape := ⟨2, ![128, 128]⟩
abbrev S_ : Shape := ⟨0, ![]⟩
abbrev S100000 : Shape := ⟨1, ![100000]⟩
abbrev S100000x1 : Shape := ⟨2, ![100000, 1]⟩

class Facts : Prop where
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S100000x64 : S_.BroadcastsInDim S100000x64 (![] : Fin 0 → Fin S100000x64.rank)
  reducesTo_S100000x64_S_d0_1 : S100000x64.ReducesTo [0, 1] S_

variable [Facts]

def fn_part1 {F : FTy → Type} [FloatOps F] (main_arg2 : FVec F S100000x64 .f32) (main_v10 : FVec F S100000x64 .f32) (main_v14 : IVec S_ 1) (main_v17 : IVec S128x128 1) : IVec S_ 1 :=
  let main_c_4 : IVec S_ 1 := constantI S_ 1 1#1
  let main_v18 : IVec S_ 1 := (fun x v => Host.reduce IntOp.andi x v reducesTo_S128x128_S_d0_1 h_S_) main_v17 main_c_4
  let main_v19 : IVec S_ 1 := andi main_v14 main_v18
  let main_v20 : FVec F S100000x64 .f32 := Host.absf main_arg2
  let main_cst_5 : FVec F S_ .f32 := constant S_ .f32 0x7F800000#32
  let main_v21 : FVec F S100000x64 .f32 := broadcastInDim S100000x64 ![] bcast_S_S100000x64 main_cst_5
  let main_v22 : IVec S100000x64 1 := cmpf .olt main_v20 main_v21
  let main_c_6 : IVec S_ 1 := constantI S_ 1 1#1
  let main_v23 : IVec S_ 1 := (fun x v => Host.reduce IntOp.andi x v reducesTo_S100000x64_S_d0_1 h_S_) main_v22 main_c_6
  let main_v24 : IVec S_ 1 := andi main_v19 main_v23
  let main_cst_7 : FVec F S_ .f32 := constant S_ .f32 0x3089705F#32
  let main_v25 : FVec F S100000x64 .f32 := broadcastInDim S100000x64 ![] bcast_S_S100000x64 main_cst_7
  let main_v26 : IVec S100000x64 1 := cmpf .oge main_v10 main_v25
  let main_c_8 : IVec S_ 1 := constantI S_ 1 1#1
  let main_v27 : IVec S_ 1 := (fun x v => Host.reduce IntOp.andi x v reducesTo_S100000x64_S_d0_1 h_S_) main_v26 main_c_8
  let main_v28 : IVec S_ 1 := andi main_v24 main_v27
  main_v28

def fn {F : FTy → Type} [FloatOps F] (main_arg0 : FVec F S100000x128 .f32) (main_arg1 : FVec F S100000x128 .f32) (main_arg2 : FVec F S100000x64 .f32) (main_arg3 : FVec F S100000x64 .f32) (main_arg4 : FVec F S128x128 .f32) : IVec S_ 1 :=
  let main_cst : FVec F S_ .f32 := constant S_ .f32 0xFF800000#32
  let main_v0 : FVec F S100000 .f32 := (fun x v => Host.reduce FloatOps.maximumf x v reducesTo_S100000x64_S100000_d1 h_S_) main_arg2 main_cst
  let main_cst_0 : FVec F S_ .f32 := constant S_ .f32 0xFF800000#32
  let main_v1 : FVec F S100000 .f32 := broadcastInDim S100000 ![] bcast_S_S100000 main_cst_0
  let main_v2 : FVec F S100000 .f32 := maximumf main_v1 main_v0
  let main_v3 : FVec F S100000x1 .f32 := broadcastInDim S100000x1 ![0] bcast_S100000_S100000x1_0 main_v2
  let main_v4 : FVec F S100000x64 .f32 := broadcastInDim S100000x64 ![0, 1] bcast_S100000x1_S100000x64_0_1 main_v3
  let main_v5 : FVec F S100000x64 .f32 := subf main_arg2 main_v4
  let main_v6 : FVec F S100000x64 .f32 := Host.exp main_v5
  let main_cst_1 : FVec F S_ .f32 := constant S_ .f32 0x00000000#32
  let main_v7 : FVec F S100000 .f32 := (fun x v => Host.reduceAdd x v reducesTo_S100000x64_S100000_d1 h_S_) main_v6 main_cst_1
  let main_v8 : FVec F S100000x1 .f32 := broadcastInDim S100000x1 ![0] bcast_S100000_S100000x1_0 main_v7
  let main_v9 : FVec F S100000x64 .f32 := broadcastInDim S100000x64 ![0, 1] bcast_S100000x1_S100000x64_0_1 main_v8
  let main_v10 : FVec F S100000x64 .f32 := Host.divf main_v6 main_v9
  let main_v11 : FVec F S100000x128 .f32 := Host.absf main_arg1
  let main_cst_2 : FVec F S_ .f32 := constant S_ .f32 0x7F800000#32
  let main_v12 : FVec F S100000x128 .f32 := broadcastInDim S100000x128 ![] bcast_S_S100000x128 main_cst_2
  let main_v13 : IVec S100000x128 1 := cmpf .olt main_v11 main_v12
  let main_c : IVec S_ 1 := constantI S_ 1 1#1
  let main_v14 : IVec S_ 1 := (fun x v => Host.reduce IntOp.andi x v reducesTo_S100000x128_S_d0_1 h_S_) main_v13 main_c
  let main_v15 : FVec F S128x128 .f32 := Host.absf main_arg4
  let main_cst_3 : FVec F S_ .f32 := constant S_ .f32 0x7F800000#32
  let main_v16 : FVec F S128x128 .f32 := broadcastInDim S128x128 ![] bcast_S_S128x128 main_cst_3
  let main_v17 : IVec S128x128 1 := cmpf .olt main_v15 main_v16
  fn_part1 (F := F) main_arg2 main_v10 main_v14 main_v17
-- ==== Pre_finite.lean ====
abbrev S100000x128 : Shape := ⟨2, ![100000, 128]⟩
abbrev S100000x64 : Shape := ⟨2, ![100000, 64]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S100000x128 .f32) (main_arg1 : FVec F S100000x128 .f32) (main_arg2 : FVec F S100000x64 .f32) (main_arg3 : FVec F S100000x64 .f32) (main_arg4 : FVec F S128x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  main_v13
-- ==== Plain.lean ====
abbrev S100000x128 : Shape := ⟨2, ![100000, 128]⟩
abbrev S100000x64 : Shape := ⟨2, ![100000, 64]⟩
abbrev S128x128 : Shape := ⟨2, ![128, 128]⟩
abbrev S64x128 : Shape := ⟨2, ![64, 128]⟩
abbrev S100000x1 : Shape := ⟨2, ![100000, 1]⟩
abbrev S100000 : Shape := ⟨1, ![100000]⟩
abbrev S4000x64 : Shape := ⟨2, ![4000, 64]⟩
abbrev S4000x128 : Shape := ⟨2, ![4000, 128]⟩
abbrev S4000 : Shape := ⟨1, ![4000]⟩
abbrev S4000x1 : Shape := ⟨2, ![4000, 1]⟩
abbrev S128 : Shape := ⟨1, ![128]⟩
abbrev S1x128 : Shape := ⟨2, ![1, 128]⟩

abbrev nBuf : Space → Nat
  | .hbm => 10
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x64, .f32⟩
  | .hbm, ⟨3, _⟩ => ⟨S100000x64, .f32⟩
  | .hbm, ⟨4, _⟩ => ⟨S128x128, .f32⟩
  | .hbm, ⟨5, _⟩ => ⟨S64x128, .f32⟩
  | .hbm, ⟨6, _⟩ => ⟨S64x128, .f32⟩
  | .hbm, ⟨7, _⟩ => ⟨S100000x128, .f32⟩
  | .hbm, ⟨8, _⟩ => ⟨S100000x1, .f32⟩
  | .hbm, ⟨9, _⟩ => ⟨S100000, .f32⟩
  | .local _ .vmem, ⟨0, _⟩ => ⟨S4000x64, .f32⟩
  | .local _ .vmem, ⟨1, _⟩ => ⟨S4000x64, .f32⟩
  | .local _ .vmem, ⟨2, _⟩ => ⟨S4000x128, .f32⟩
  | .local _ .vmem, ⟨3, _⟩ => ⟨S4000x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S128x128, .f32⟩
  | .local _ .vmem, ⟨9, _⟩ => ⟨S4000x64, .f32⟩
  | .local _ .vmem, ⟨10, _⟩ => ⟨S4000x64, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0_0 : Ref sig .tc := ⟨.hbm, 5, rfl⟩
abbrev main_call0_v0_1 : Ref sig .tc := ⟨.hbm, 6, rfl⟩
abbrev main_v0_0 : Ref sig .tc := ⟨.hbm, 7, rfl⟩
abbrev main_call0_v1_1 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_7 : BitVec 32 := 0#32
  let v20 : BitVec 1 := Scalar.cmpi .ne v19 c0_i32_7
  v20

def k0_cond2 (i : grid0.Coords) : BitVec 1 :=
  let arg0 : BitVec 32 := BitVec.ofNat 32 (i 0).val
  let c0_i32_8 : BitVec 32 := 0#32
  let v21 : BitVec 1 := Scalar.cmpi .ne arg0 c0_i32_8
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== PlainIdeal.lean ====
variable {F : FTy → Type} [FloatOps F] [Named F]
def κ : String → Option EReal := fun
  | "inv_n" => some ((1 / 100000 : ℝ) : EReal)
  | _ => none
-- ==== Kernel.lean ====
abbrev S100000x128 : Shape := ⟨2, ![100000, 128]⟩
abbrev S100000x64 : Shape := ⟨2, ![100000, 64]⟩
abbrev S128x128 : Shape := ⟨2, ![128, 128]⟩
abbrev S100000x1 : Shape := ⟨2, ![100000, 1]⟩
abbrev S100000 : Shape := ⟨1, ![100000]⟩
abbrev S10000x64 : Shape := ⟨2, ![10000, 64]⟩
abbrev S10000x128 : Shape := ⟨2, ![10000, 128]⟩
abbrev S10000x1 : Shape := ⟨2, ![10000, 1]⟩
abbrev S64x128 : Shape := ⟨2, ![64, 128]⟩
abbrev S8x64 : Shape := ⟨2, ![8, 64]⟩
abbrev S2000x64 : Shape := ⟨2, ![2000, 64]⟩
abbrev S2000x128 : Shape := ⟨2, ![2000, 128]⟩
abbrev S2000 : Shape := ⟨1, ![2000]⟩
abbrev S2000x1 : Shape := ⟨2, ![2000, 1]⟩
abbrev S64 : Shape := ⟨1, ![64]⟩
abbrev S1x64 : Shape := ⟨2, ![1, 64]⟩
abbrev S64x1 : Shape := ⟨2, ![64, 1]⟩
abbrev S128 : Shape := ⟨1, ![128]⟩
abbrev S1x128 : Shape := ⟨2, ![1, 128]⟩

abbrev nBuf : Space → Nat
  | .hbm => 8
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x64, .f32⟩
  | .hbm, ⟨3, _⟩ => ⟨S100000x64, .f32⟩
  | .hbm, ⟨4, _⟩ => ⟨S128x128, .f32⟩
  | .hbm, ⟨5, _⟩ => ⟨S100000x128, .f32⟩
  | .hbm, ⟨6, _⟩ => ⟨S100000x1, .f32⟩
  | .hbm, ⟨7, _⟩ => ⟨S100000, .f32⟩
  | .local _ .vmem, ⟨0, _⟩ => ⟨S10000x64, .f32⟩
  | .local _ .vmem, ⟨1, _⟩ => ⟨S10000x64, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S10000x64, .f32⟩
  | .local _ .vmem, ⟨6, _⟩ => ⟨S10000x64, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x1, .f32⟩
  | .local _ .vmem, ⟨12, _⟩ => ⟨S10000x1, .f32⟩
  | .local _ .vmem, ⟨13, _⟩ => ⟨S64x128, .f32⟩
  | .local _ .vmem, ⟨14, _⟩ => ⟨S8x64, .f32⟩
  | .local _ .vmem, ⟨15, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_call0_v0_1 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![20], ![false]⟩

def k0_cond4 (i : grid0.Coords) : BitVec 1 :=
  let arg0 : BitVec 32 := BitVec.ofNat 32 (i 0).val
  let c10_i32_4 : BitVec 32 := 10#32
  let v9 : BitVec 1 := Scalar.cmpi .sge arg0 c10_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_log_b" => some (((Real.log 64)⁻¹ : ℝ) : EReal)
  | "inv_n" => some ((1 / 100000 : ℝ) : EReal)
  | _ => none
-- ==== ReferenceIdeal.lean ====
abbrev S100000x128 : Shape := ⟨2, ![100000, 128]⟩
abbrev S100000x64 : Shape := ⟨2, ![100000, 64]⟩
abbrev S128x128 : Shape := ⟨2, ![128, 128]⟩
abbrev S_ : Shape := ⟨0, ![]⟩
abbrev S100000 : Shape := ⟨1, ![100000]⟩
abbrev S100000x1 : Shape := ⟨2, ![100000, 1]⟩
abbrev S64 : Shape := ⟨1, ![64]⟩
abbrev S64x128 : Shape := ⟨2, ![64, 128]⟩
abbrev S64x1 : Shape := ⟨2, ![64, 1]⟩
abbrev S128 : Shape := ⟨1, ![128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x64, .f32⟩
  | .hbm, ⟨3, _⟩ => ⟨S100000x64, .f32⟩
  | .hbm, ⟨4, _⟩ => ⟨S128x128, .f32⟩
  | .hbm, ⟨5, _⟩ => ⟨S100000x64, .i32⟩
  | .hbm, ⟨6, _⟩ => ⟨S_, .f32⟩
  | .hbm, ⟨7, _⟩ => ⟨S_, .i32⟩
  | .hbm, ⟨8, _⟩ => ⟨S100000, .f32⟩
  | .hbm, ⟨9, _⟩ => ⟨S100000, .i32⟩
  | .hbm, ⟨10, _⟩ => ⟨S_, .f32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S100000x64, .f32⟩
  | .hbm, ⟨17, _⟩ => ⟨S100000x64, .f32⟩
  | .hbm, ⟨18, _⟩ => ⟨S100000x64, .f32⟩
  | .hbm, ⟨19, _⟩ => ⟨S_, .f32⟩
  | .hbm, ⟨20, _⟩ => ⟨S100000, .f32⟩
  | .hbm, ⟨21, _⟩ => ⟨S100000x1, .f32⟩
  | .hbm, ⟨22, _⟩ => ⟨S100000x64, .f32⟩
  | .hbm, ⟨23, _⟩ => ⟨S100000x64, .f32⟩
  | .hbm, ⟨24, _⟩ => ⟨S_, .f32⟩
  | .hbm, ⟨25, _⟩ => ⟨S100000, .f32⟩
  | .hbm, ⟨26, _⟩ => ⟨S_, .f32⟩
  | .hbm, ⟨27, _⟩ => ⟨S64, .f32⟩
  | .hbm, ⟨28, _⟩ => ⟨S100000x1, .i32⟩
  | .hbm, ⟨29, _⟩ => ⟨S64, .f32⟩
  | .hbm, ⟨30, _⟩ => ⟨S_, .f32⟩
  | .hbm, ⟨31, _⟩ => ⟨S64x128, .f32⟩
  | .hbm, ⟨32, _⟩ => ⟨S100000x1, .i32⟩
  | .hbm, ⟨33, _⟩ => ⟨S64x128, .f32⟩
  | .hbm, ⟨34, _⟩ => ⟨S_, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64x1, .f32⟩
  | .hbm, ⟨39, _⟩ => ⟨S64x128, .f32⟩
  | .hbm, ⟨40, _⟩ => ⟨S64x128, .f32⟩
  | .hbm, ⟨41, _⟩ => ⟨S_, .f32⟩
  | .hbm, ⟨42, _⟩ => ⟨S64, .f32⟩
  | .hbm, ⟨43, _⟩ => ⟨S64, .i1⟩
  | .hbm, ⟨44, _⟩ => ⟨S64x1, .i1⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S64x128, .i1⟩
  | .hbm, ⟨52, _⟩ => ⟨S64x128, .f32⟩
  | .hbm, ⟨53, _⟩ => ⟨S64x128, .f32⟩
  | .hbm, ⟨54, _⟩ => ⟨S100000x128, .f32⟩
  | .hbm, ⟨55, _⟩ => ⟨S128x128, .f32⟩
  | .hbm, ⟨56, _⟩ => ⟨S100000x128, .f32⟩
  | .hbm, ⟨57, _⟩ => ⟨S_, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S_, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call2_v0 : Ref sig .tc := ⟨.hbm, 51, rfl⟩
abbrev main_call2_v1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_call3_v0 : Ref sig .tc := ⟨.hbm, 58, rfl⟩
abbrev main_call3_v1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_10 : Ref sig .tc := ⟨.hbm, 63, rfl⟩
abbrev main_v37 : Ref sig .tc := ⟨.hbm, 64, rfl⟩
abbrev main_v38 : Ref sig .tc := ⟨.hbm, 65, rfl⟩
abbrev main_cst_11 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]
-- ==== Proof.Run.Points.lean ====
module

public import proofs.«01_k».proof.Proof.Gen.KernelIdeal.Frame
public import proofs.«01_k».proof.Proof.Gen.KernelIdeal.Skeleton

/-! The grid's twenty points: the first ten collect rows into buckets, the last ten recover rows. Which of the body's
four conditionals is taken at a point, where the two output windows are left alone, and the names of the memrefs the
body is handed. -/

@[expose] public section

set_option maxRecDepth 16384

noncomputable section

namespace Cert.Refine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The condition under which the body clears the bucket sums and counts. -/
abbrev isFirst (i : grid0.Coords) : Prop :=
  (Scalar.cmpi .ne (Scalar.extui (Scalar.cmpi .eq (BitVec.ofNat 32 (i 0).val) 0#32)) 0#32) = 1#1
/-- The condition under which the body collects a block of rows. -/
abbrev isCollect (i : grid0.Coords) : Prop :=
  (Scalar.cmpi .ne (Scalar.extui (Scalar.cmpi .slt (BitVec.ofNat 32 (i 0).val) 10#32)) 0#32) = 1#1
/-- The condition under which the body forms the projected prototypes. -/
abbrev isTurn (i : grid0.Coords) : Prop :=
  (Scalar.cmpi .ne (Scalar.extui (Scalar.cmpi .eq (BitVec.ofNat 32 (i 0).val) 10#32)) 0#32) = 1#1
/-- The condition under which the body recovers a block of rows. -/
abbrev isRecover (i : grid0.Coords) : Prop := k0_cond4 i = 1#1

/-- The sums and counts are cleared at the first point only. -/
theorem isFirst_iff : ∀ t : Fin cfg0.N, isFirst (grid0.coords t) ↔ t.val = 0 :=
  (by decide +kernel : ∀ t : Fin grid0.N, isFirst (grid0.coords t) ↔ t.val = 0)
/-- Rows are collected at the points before the tenth. -/
theorem isCollect_iff : ∀ t : Fin cfg0.N, isCollect (grid0.coords t) ↔ t.val < 10 :=
  (by decide +kernel : ∀ t : Fin grid0.N, isCollect (grid0.coords t) ↔ t.val < 10)
/-- The projected prototypes are formed at point ten only. -/
theorem isTurn_iff : ∀ t : Fin cfg0.N, isTurn (grid0.coords t) ↔ t.val = 10 :=
  (by decide +kernel : ∀ t : Fin grid0.N, isTurn (grid0.coords t) ↔ t.val = 10)
/-- Rows are recovered at the points from the tenth on. -/
theorem isRecover_iff : ∀ t : Fin cfg0.N, isRecover (grid0.coords t) ↔ 10 ≤ t.val :=
  (by decide +kernel : ∀ t : Fin grid0.N, isRecover (grid0.coords t) ↔ 10 ≤ t.val)

/-- Before point ten the first output window is left alone. -/
theorem idle_out : ∀ t : Fin cfg0.N, t.val < 10 → cfg0.idle 5 (grid0.coords t) = true := by decide +kernel
/-- Before point ten the second output window is left alone. -/
theorem idle_conf : ∀ t : Fin cfg0.N, t.val < 10 → cfg0.idle 6 (grid0.coords t) = true := by decide +kernel
/-- From point ten on the first output window is written. -/
theorem live_out : ∀ t : Fin cfg0.N, ¬ t.val < 10 → cfg0.idle 5 (grid0.coords t) = false := by decide +kernel
/-- From point ten on the second output window is written. -/
theorem live_conf : ∀ t : Fin cfg0.N, ¬ t.val < 10 → cfg0.idle 6 (grid0.coords t) = false := by decide +kernel
/-- Before point ten the first output window is not written back. -/
theorem noFlush_out : ∀ t : Fin cfg0.N, t.val < 10 → (cfg0.win 5).flush t = false := by decide +kernel
/-- Before point ten the second output window is not written back. -/
theorem noFlush_conf : ∀ t : Fin cfg0.N, t.val < 10 → (cfg0.win 6).flush t = false := by decide +kernel
/-- The input windows are never left alone. -/
theorem live_in0 (t : Fin cfg0.N) : cfg0.idle 0 (grid0.coords t) = false := rfl
theorem live_in1 (t : Fin cfg0.N) : cfg0.idle 1 (grid0.coords t) = false := rfl
theorem live_in2 (t : Fin cfg0.N) : cfg0.idle 2 (grid0.coords t) = false := rfl
theorem live_in3 (t : Fin cfg0.N) : cfg0.idle 3 (grid0.coords t) = false := rfl
theorem live_in4 (t : Fin cfg0.N) : cfg0.idle 4 (grid0.coords t) = false := rfl

/-- The staging memref of each window at a point, and that it is a whole buffer. -/
abbrev st0 (t : Fin cfg0.N) : Memref sig .tc .vmem S10000x64 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S10000x128 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S128x128 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S10000x64 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S10000x128 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S10000x128 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S10000x1 .f32 := win0_6.stage (cfg0.slots t 6)
abbrev hst6 (t : Fin cfg0.N) : (st6 t).IsWhole := hstage0_6 ((cfg0.slots t 6).cast nbuf0_6)
/-- The three scratch buffers: bucket sums, bucket counts, projected prototypes. -/
abbrev accM : Memref sig .tc .vmem S64x128 .f32 := Memref.whole cc0_scratch0
abbrev cntM : Memref sig .tc .vmem S8x64 .f32 := Memref.whole cc0_scratch1
abbrev protoM : Memref sig .tc .vmem S64x128 .f32 := Memref.whole cc0_scratch2

/-- What the launch hands the body besides the windows: the three scratch buffers at some contents and the generator's
    register. -/
theorem rest_eq (c : Dev nD) :
    (Pipeline.ΦA spec0 c : sProp 𝕄)
      = iprop(iprop((∃ d, owns (c : Thread nD τ) accM fullShare d) ∗ (∃ d, owns (c : Thread nD τ) cntM fullShare d) ∗ (∃ d, owns (c : Thread nD τ) protoM fullShare d)) ∗ (∃ r, prngReg c r)) := by
  unfold Pipeline.ΦA; rw [scopedRest0_eq]; simp only [accM, cntM, protoM, owns_whole]; try rfl

end Cert.Refine

end
-- ==== Proof.Run.Chunks.lean ====
module

public import proofs.«01_k».proof.Proof.Run.Points
public import Idealize.ShloMosaic.Lib.VecWindow
public import Idealize.ShloMosaic.Lib.WholeRead

/-! What the body computes at a point, as functions of the blocks it reads: the bucket sums and counts after one more
block of rows, the projected prototypes, and the recovered rows with their confidence. A block of ten thousand rows is
worked through in five runs of two thousand rows. -/

@[expose] public section

set_option maxRecDepth 16384

noncomputable section

namespace Cert.Refine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## Two thousand rows of a block -/

/-- The two thousand rows from row `o` on of a block of 64-entry rows. -/
def rows64 (o : ℕ) (h : ∀ a, (![o, 0] : Fin 2 → ℕ) a + S2000x64.size a ≤ S10000x64.size a) (x : Vec F S10000x64 .f32) : Vec F S2000x64 .f32 :=
  fun j => x ((Rect.unit (s := S10000x64) ![o, 0] S2000x64.size h).toLoadRect.idx j)
/-- The two thousand rows from row `o` on of a block of 128-entry rows. -/
def rows128 (o : ℕ) (h : ∀ a, (![o, 0] : Fin 2 → ℕ) a + S2000x128.size a ≤ S10000x128.size a) (x : Vec F S10000x128 .f32) : Vec F S2000x128 .f32 :=
  fun j => x ((Rect.unit (s := S10000x128) ![o, 0] S2000x128.size h).toLoadRect.idx j)

section Loads
variable {a64 : Memref sig .tc .vmem S10000x64 .f32} (h64 : a64.IsWhole) {a128 : Memref sig .tc .vmem S10000x128 .f32} (h128 : a128.IsWhole)
  {aA : Memref sig .tc .vmem S64x128 .f32} (hA : aA.IsWhole) {aC : Memref sig .tc .vmem S8x64 .f32} (hC : aC.IsWhole)
  {aW : Memref sig .tc .vmem S128x128 .f32} (hW : aW.IsWhole)

/-- A load of two thousand rows of a 64-entry block held at `x` reads those rows of `x`. -/
theorem load_rows64 (o : ℕ) (h) (x : Vec F S10000x64 .f32) :
    View.readAt (Elt F) a64.view (Rect.unit (s := S10000x64) ![o, 0] S2000x64.size h).toLoadRect (h64.unread x) = rows64 o h x :=
  funext fun j => h64.readAt_unread x _ j
/-- A load of two thousand rows of a 128-entry block held at `x` reads those rows of `x`. -/
theorem load_rows128 (o : ℕ) (h) (x : Vec F S10000x128 .f32) :
    View.readAt (Elt F) a128.view (Rect.unit (s := S10000x128) ![o, 0] S2000x128.size h).toLoadRect (h128.unread x) = rows128 o h x :=
  funext fun j => h128.readAt_unread x _ j
/-- A load of a whole buffer of 64 by 128 entries held at `x` reads `x`. -/
theorem load_acc (h) (x : Vec F S64x128 .f32) :
    View.readAt (Elt F) aA.view (Rect.unit (s := S64x128) ![0, 0] S64x128.size h).toLoadRect (hA.unread x) = x := by
  rw [View.readAt_full, hA.read_unread]
/-- A load of a whole buffer of 8 by 64 entries held at `x` reads `x`. -/
theorem load_cnt (h) (x : Vec F S8x64 .f32) :
    View.readAt (Elt F) aC.view (Rect.unit (s := S8x64) ![0, 0] S8x64.size h).toLoadRect (hC.unread x) = x := by
  rw [View.readAt_full, hC.read_unread]
/-- A load of a whole buffer of 128 by 128 entries held at `x` reads `x`. -/
theorem load_W (h) (x : Vec F S128x128 .f32) :
    View.readAt (Elt F) aW.view (Rect.unit (s := S128x128) ![0, 0] S128x128.size h).toLoadRect (hW.unread x) = x := by
  rw [View.readAt_full, hW.read_unread]
/-- A load of the first row of a buffer of 8 by 64 entries held at `x` reads that row of `x`. -/
theorem load_row0 (h) (x : Vec F S8x64 .f32) :
    View.readAt (Elt F) aC.view (Rect.unit (s := S8x64) ![0, 0] S1x64.size h).toLoadRect (hC.unread x)
      = fun j => x ((Rect.unit (s := S8x64) ![0, 0] S1x64.size h).toLoadRect.idx j) :=
  funext fun j => hC.readAt_unread x _ j
end Loads

/-! ## Collecting a block -/

/-- The bucket sums after the five runs of a block: each adds its one-hot matrix's transpose times its rows. -/
def accStep (x0 : Vec F S10000x64 .f32) (x1 : Vec F S10000x128 .f32) (a : Vec F S64x128 .f32) : Vec F S64x128 .f32 :=
  k0_pay8 (rows64 8000 inb_S10000x64_S2000x64_8000_0 x0) (rows128 8000 inb_S10000x128_S2000x128_8000_0 x1)
  (k0_pay8 (rows64 6000 inb_S10000x64_S2000x64_6000_0 x0) (rows128 6000 inb_S10000x128_S2000x128_6000_0 x1)
  (k0_pay8 (rows64 4000 inb_S10000x64_S2000x64_4000_0 x0) (rows128 4000 inb_S10000x128_S2000x128_4000_0 x1)
  (k0_pay8 (rows64 2000 inb_S10000x64_S2000x64_2000_0 x0) (rows128 2000 inb_S10000x128_S2000x128_2000_0 x1)
  (k0_pay8 (rows64 0 inb_S10000x64_S2000x64_0_0 x0) (rows128 0 inb_S10000x128_S2000x128_0_0 x1) a))))
/-- The bucket counts after the five runs of a block. -/
def cntStep (x0 : Vec F S10000x64 .f32) (n : Vec F S8x64 .f32) : Vec F S8x64 .f32 :=
  k0_pay9 (rows64 8000 inb_S10000x64_S2000x64_8000_0 x0)
  (k0_pay9 (rows64 6000 inb_S10000x64_S2000x64_6000_0 x0)
  (k0_pay9 (rows64 4000 inb_S10000x64_S2000x64_4000_0 x0)
  (k0_pay9 (rows64 2000 inb_S10000x64_S2000x64_2000_0 x0)
  (k0_pay9 (rows64 0 inb_S10000x64_S2000x64_0_0 x0) n))))

/-- The later runs of a block compute the bucket sums as the first one does. -/
theorem sums_second (v : Vec F S2000x64 .f32) (w : Vec F S2000x128 .f32) (a : Vec F S64x128 .f32) : k0_pay12 v w (k0_pay10 v) a = k0_pay8 v w a := rfl
theorem sums_third (v : Vec F S2000x64 .f32) (w : Vec F S2000x128 .f32) (a : Vec F S64x128 .f32) :
    k0_pay16 w (iota Kind.tc S2000x64 32 [1] iota_S2000x64_d1_w32) (k0_pay14 v) a = k0_pay8 v w a := rfl
theorem sums_fourth (v : Vec F S2000x64 .f32) (w : Vec F S2000x128 .f32) (a : Vec F S64x128 .f32) :
    k0_pay22 w (k0_pay18 v) k0_pay19 k0_pay20 a = k0_pay8 v w a := rfl
theorem sums_fifth (v : Vec F S2000x64 .f32) (w : Vec F S2000x128 .f32) (a : Vec F S64x128 .f32) :
    k0_pay3 (k0_pay25 v w) a = k0_pay8 v w a := rfl
/-- The later runs of a block compute the bucket counts as the first one does. -/
theorem counts_second (v : Vec F S2000x64 .f32) (a : Vec F S8x64 .f32) : k0_pay13 v (k0_pay10 v) a = k0_pay9 v a := rfl
theorem counts_third (v : Vec F S2000x64 .f32) (a : Vec F S8x64 .f32) :
    k0_pay17 (iota Kind.tc S2000x64 32 [1] iota_S2000x64_d1_w32) (k0_pay14 v) a = k0_pay9 v a := rfl
theorem counts_fourth (v : Vec F S2000x64 .f32) (a : Vec F S8x64 .f32) : k0_pay23 (k0_pay18 v) k0_pay19 k0_pay20 a = k0_pay9 v a := rfl
theorem counts_fifth (v : Vec F S2000x64 .f32) (a : Vec F S8x64 .f32) : k0_pay4 (k0_pay26 v) a = k0_pay9 v a := rfl

/-! ## The projected prototypes -/

/-- The projected prototypes from the bucket sums, the bucket counts (their first row) and the projection. -/
def protoOf (a : Vec F S64x128 .f32) (n : Vec F S8x64 .f32) (w : Vec F S128x128 .f32) : Vec F S64x128 .f32 :=
  k0_pay5 (fun j => n ((Rect.unit (s := S8x64) ![0, 0] S1x64.size inb_S8x64_S1x64_0_0).toLoadRect.idx j)) a w

/-- The projected prototypes from loads of buffers held at the sums `a`, the counts `n` and the projection `w`. -/
theorem proto_load {aA : Memref sig .tc .vmem S64x128 .f32} (hA : aA.IsWhole) {aC : Memref sig .tc .vmem S8x64 .f32} (hC : aC.IsWhole)
    {aW : Memref sig .tc .vmem S128x128 .f32} (hW : aW.IsWhole) (a : Vec F S64x128 .f32) (n : Vec F S8x64 .f32) (w : Vec F S128x128 .f32) :
    k0_pay5 (View.readAt (Elt F) aC.view (Rect.unit (s := S8x64) ![0, 0] S1x64.size inb_S8x64_S1x64_0_0).toLoadRect (hC.unread n))
      (View.readAt (Elt F) aA.view (Rect.unit (s := S64x128) ![0, 0] S64x128.size inb_S64x128_S64x128_0_0).toLoadRect (hA.unread a))
      (View.readAt (Elt F) aW.view (Rect.unit (s := S128x128) ![0, 0] S128x128.size inb_S128x128_S128x128_0_0).toLoadRect (hW.unread w))
      = protoOf a n w := by
  rw [load_acc, load_W]
  exact congrArg (fun r => k0_pay5 r a w) (load_row0 hC inb_S8x64_S1x64_0_0 n)

/-- A buffer stored whole is loaded back whole. -/
theorem load_stored (aP : Memref sig .tc .vmem S64x128 .f32) (w w' : Vec F S64x128 .f32) (h : w = w') :
    aP.view.readCov (Val := Elt F) [⟨Rect.unit (s := S64x128) ![0, 0] S64x128.size inb_S64x128_S64x128_0_0, w⟩]
      (Rect.unit (s := S64x128) ![0, 0] S64x128.size inb_S64x128_S64x128_0_0).toLoadRect = w' :=
  (View.readCov_full aP.view inb_S64x128_S64x128_0_0 inb_S64x128_S64x128_0_0 w []).trans h

/-! ## Recovering a block -/

/-- The later runs of a block recover rows as the first one does. -/
theorem out_second (v : Vec F S2000x64 .f32) (p : Vec F S64x128 .f32) (h : Vec F S2000x128 .f32) :
    k0_pay40 (k0_pay34 v) (k0_pay35 v) (k0_pay36 v) p h = k0_pay32 v p h := rfl
theorem out_third (v : Vec F S2000x64 .f32) (p : Vec F S64x128 .f32) (h : Vec F S2000x128 .f32) :
    k0_pay48 (k0_pay43 v) (k0_pay45 v) (k0_pay46 v) p h = k0_pay32 v p h := rfl
theorem out_fourth (v : Vec F S2000x64 .f32) (p : Vec F S64x128 .f32) (h : Vec F S2000x128 .f32) :
    k0_pay56 (k0_pay54 v) (k0_pay55 v p) h = k0_pay32 v p h := rfl
theorem out_fifth (v : Vec F S2000x64 .f32) (p : Vec F S64x128 .f32) (h : Vec F S2000x128 .f32) :
    k0_pay63 v p h = k0_pay32 v p h := rfl
/-- The later runs of a block form the confidence as the first one does. -/
theorem conf_second (v : Vec F S2000x64 .f32) : k0_pay41 (k0_pay34 v) (k0_pay35 v) (k0_pay36 v) = k0_pay33 v := rfl
theorem conf_third (v : Vec F S2000x64 .f32) : k0_pay49 (k0_pay46 v) = k0_pay33 v := rfl
theorem conf_fourth (v : Vec F S2000x64 .f32) : k0_pay57 (k0_pay54 v) = k0_pay33 v := rfl
theorem conf_fifth (v : Vec F S2000x64 .f32) : k0_pay6 (k0_pay62 v) k0_pay64 = k0_pay33 v := rfl

/-- What the recovering points write to the first output's block, last first: five runs of two thousand rows. -/
def outPieces (x3 : Vec F S10000x64 .f32) (x4 : Vec F S10000x128 .f32) (p : Vec F S64x128 .f32) : List (View.Piece (Elt F) S10000x128 .f32) :=
  [⟨Rect.unit (s := S10000x128) ![8000, 0] S2000x128.size inb_S10000x128_S2000x128_8000_0, k0_pay32 (rows64 8000 inb_S10000x64_S2000x64_8000_0 x3) p (rows128 8000 inb_S10000x128_S2000x128_8000_0 x4)⟩,
   ⟨Rect.unit (s := S10000x128) ![6000, 0] S2000x128.size inb_S10000x128_S2000x128_6000_0, k0_pay32 (rows64 6000 inb_S10000x64_S2000x64_6000_0 x3) p (rows128 6000 inb_S10000x128_S2000x128_6000_0 x4)⟩,
   ⟨Rect.unit (s := S10000x128) ![4000, 0] S2000x128.size inb_S10000x128_S2000x128_4000_0, k0_pay32 (rows64 4000 inb_S10000x64_S2000x64_4000_0 x3) p (rows128 4000 inb_S10000x128_S2000x128_4000_0 x4)⟩,
   ⟨Rect.unit (s := S10000x128) ![2000, 0] S2000x128.size inb_S10000x128_S2000x128_2000_0, k0_pay32 (rows64 2000 inb_S10000x64_S2000x64_2000_0 x3) p (rows128 2000 inb_S10000x128_S2000x128_2000_0 x4)⟩,
   ⟨Rect.unit (s := S10000x128) ![0, 0] S2000x128.size inb_S10000x128_S2000x128_0_0, k0_pay32 (rows64 0 inb_S10000x64_S2000x64_0_0 x3) p (rows128 0 inb_S10000x128_S2000x128_0_0 x4)⟩]
/-- What the recovering points write to the second output's block, last first. -/
def confPieces (x3 : Vec F S10000x64 .f32) : List (View.Piece (Elt F) S10000x1 .f32) :=
  [⟨Rect.unit (s := S10000x1) ![8000, 0] S2000x1.size inb_S10000x1_S2000x1_8000_0, k0_pay33 (rows64 8000 inb_S10000x64_S2000x64_8000_0 x3)⟩,
   ⟨Rect.unit (s := S10000x1) ![6000, 0] S2000x1.size inb_S10000x1_S2000x1_6000_0, k0_pay33 (rows64 6000 inb_S10000x64_S2000x64_6000_0 x3)⟩,
   ⟨Rect.unit (s := S10000x1) ![4000, 0] S2000x1.size inb_S10000x1_S2000x1_4000_0, k0_pay33 (rows64 4000 inb_S10000x64_S2000x64_4000_0 x3)⟩,
   ⟨Rect.unit (s := S10000x1) ![2000, 0] S2000x1.size inb_S10000x1_S2000x1_2000_0, k0_pay33 (rows64 2000 inb_S10000x64_S2000x64_2000_0 x3)⟩,
   ⟨Rect.unit (s := S10000x1) ![0, 0] S2000x1.size inb_S10000x1_S2000x1_0_0, k0_pay33 (rows64 0 inb_S10000x64_S2000x64_0_0 x3)⟩]

/-- The five runs cover the first output's block. -/
theorem outPieces_cover (x3 : Vec F S10000x64 .f32) (x4 : Vec F S10000x128 .f32) (p : Vec F S64x128 .f32) (y : S10000x128.Idx) :
    ∃ pc ∈ outPieces x3 x4 p, y ∈ pc.1.set :=
  View.cover_of_tiledL (outPieces x3 x4 p) S2000x128.size (by sl_kernel_rfl) y
/-- The five runs cover the second output's block. -/
theorem confPieces_cover (x3 : Vec F S10000x64 .f32) (y : S10000x1.Idx) : ∃ pc ∈ confPieces x3, y ∈ pc.1.set :=
  View.cover_of_tiledL (confPieces x3) S2000x1.size (by sl_kernel_rfl) y

/-- A view of each output's block, through which its contents are stated. -/
abbrev outV : View sig .tc .vmem S10000x128 .f32 := (Memref.whole cc0_stg5_0 : Memref sig .tc .vmem S10000x128 .f32).view
abbrev confV : View sig .tc .vmem S10000x1 .f32 := (Memref.whole cc0_stg6_0 : Memref sig .tc .vmem S10000x1 .f32).view

/-- The first output's block after a recovering point. -/
def outBlock (x3 : Vec F S10000x64 .f32) (x4 : Vec F S10000x128 .f32) (p : Vec F S64x128 .f32) : Vec F S10000x128 .f32 :=
  outV.read (Elt F) (outV.writes (Elt F) outV.junk (outPieces x3 x4 p))
/-- The second output's block after a recovering point. -/
def confBlock (x3 : Vec F S10000x64 .f32) : Vec F S10000x1 .f32 :=
  confV.read (Elt F) (confV.writes (Elt F) confV.junk (confPieces x3))

end Cert.Refine

end
-- ==== Proof.Run.First.lean ====
module

public import proofs.«01_k».proof.Proof.Run.Chunks

/-! The body's run at the first point. -/

@[expose] public section

set_option maxRecDepth 16384

noncomputable section

namespace Cert.Refine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S10000x64 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S10000x64 .f32) (harg4 : arg4.IsWhole)
  (arg5 : Memref sig .tc .vmem S10000x128 .f32) (harg5 : arg5.IsWhole)
  (arg6 : Memref sig .tc .vmem S10000x128 .f32) (harg6 : arg6.IsWhole)
  (arg7 : Memref sig .tc .vmem S10000x1 .f32) (harg7 : arg7.IsWhole)
  (arg8 : Memref sig .tc .vmem S64x128 .f32) (harg8 : arg8.IsWhole)
  (arg9 : Memref sig .tc .vmem S8x64 .f32) (harg9 : arg9.IsWhole)
  (arg10 : Memref sig .tc .vmem S64x128 .f32) (harg10 : arg10.IsWhole)
  (x0 : Vec F S10000x64 .f32) (x1 : Vec F S10000x128 .f32) (x2 : Vec F S128x128 .f32)
  (x3 : Vec F S10000x64 .f32) (x4 : Vec F S10000x128 .f32)

set_option maxHeartbeats 1000000 in
/-- The first point: whatever the sums and counts hold, the body clears them and leaves those of the first block, and everything else as it was. -/
theorem run_first (hc0 : isFirst i) (hc1 : isCollect i) (hc2 : ¬isTurn i) (hc3 : ¬isRecover i)
    (x5 : Vec F S10000x128 .f32) (x6 : Vec F S10000x1 .f32) (xs2 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (accStep x0 x1 (k0_pay1 (F := F))) ∗ owns (c : Thread nD τ) arg9 fullShare (cntStep x0 (k0_pay2 (F := F))) ∗ owns (c : Thread nD τ) arg10 fullShare xs2) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%fs2, %hfs2, HS2⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hf5; obtain rfl := harg7.eq_unread hf6; obtain rfl := harg10.eq_unread hfs2
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    · ipureintro
      exact harg6.read_unread _
    iexact H5
  isplitl [H6]
  · iexists _; isplitr
    · ipureintro
      exact harg7.read_unread _
    iexact H6
  isplitl [HS0]
  · iexists _; isplitr; swap; · iexact HS0
    ipureintro
    refine (View.read_writes_full arg8.view _ _ _ _).trans ?_
    unfold accStep
    refine (congr (congrArg k0_pay3 (congr (congrArg k0_pay25 (load_rows64 harg1 8000 _ x0)) (load_rows128 harg2 8000 _ x1))) ?_).trans (sums_fifth _ _ _)
    refine (View.readCov_full arg8.view _ _ _ _).trans ?_
    refine (congr (congr (congr (congr (congrArg k0_pay22 (load_rows128 harg2 6000 _ x1)) (congrArg k0_pay18 (load_rows64 harg1 6000 _ x0))) rfl) rfl) ?_).trans (sums_fourth _ _ _)
    refine (View.readCov_full arg8.view _ _ _ _).trans ?_
    refine (congr (congr (congr (congrArg k0_pay16 (load_rows128 harg2 4000 _ x1)) rfl) (congrArg k0_pay14 (load_rows64 harg1 4000 _ x0))) ?_).trans (sums_third _ _ _)
    refine (View.readCov_full arg8.view _ _ _ _).trans ?_
    refine (congr (congr (congr (congrArg k0_pay12 (load_rows64 harg1 2000 _ x0)) (load_rows128 harg2 2000 _ x1)) (congrArg k0_pay10 (load_rows64 harg1 2000 _ x0))) ?_).trans (sums_second _ _ _)
    refine (View.readCov_full arg8.view _ _ _ _).trans ?_
    refine congr (congr (congrArg k0_pay8 (load_rows64 harg1 0 _ x0)) (load_rows128 harg2 0 _ x1)) ?_
    exact View.readCov_full _ _ _ _ _
  isplitl [HS1]
  · iexists _; isplitr; swap; · iexact HS1
    ipureintro
    refine (View.read_writes_full arg9.view _ _ _ _).trans ?_
    unfold cntStep
    refine (congr (congrArg k0_pay4 (congrArg k0_pay26 (load_rows64 harg1 8000 _ x0))) ?_).trans (counts_fifth _ _)
    refine (View.readCov_full arg9.view _ _ _ _).trans ?_
    refine (congr (congr (congr (congrArg k0_pay23 (congrArg k0_pay18 (load_rows64 harg1 6000 _ x0))) rfl) rfl) ?_).trans (counts_fourth _ _)
    refine (View.readCov_full arg9.view _ _ _ _).trans ?_
    refine (congr (congr (congrArg k0_pay17 rfl) (congrArg k0_pay14 (load_rows64 harg1 4000 _ x0))) ?_).trans (counts_third _ _)
    refine (View.readCov_full arg9.view _ _ _ _).trans ?_
    refine (congr (congr (congrArg k0_pay13 (load_rows64 harg1 2000 _ x0)) (congrArg k0_pay10 (load_rows64 harg1 2000 _ x0))) ?_).trans (counts_second _ _)
    refine (View.readCov_full arg9.view _ _ _ _).trans ?_
    refine congr (congrArg k0_pay9 (load_rows64 harg1 0 _ x0)) ?_
    exact View.readCov_full _ _ _ _ _
  iexists _; isplitr
  · ipureintro
    exact harg10.read_unread _
  iexact HS2

end Cert.Refine

end
-- ==== Proof.Run.Collect.lean ====
module

public import proofs.«01_k».proof.Proof.Run.Chunks

/-! The body's run at a collecting point after the first. -/

@[expose] public section

set_option maxRecDepth 16384

noncomputable section

namespace Cert.Refine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S10000x64 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S10000x64 .f32) (harg4 : arg4.IsWhole)
  (arg5 : Memref sig .tc .vmem S10000x128 .f32) (harg5 : arg5.IsWhole)
  (arg6 : Memref sig .tc .vmem S10000x128 .f32) (harg6 : arg6.IsWhole)
  (arg7 : Memref sig .tc .vmem S10000x1 .f32) (harg7 : arg7.IsWhole)
  (arg8 : Memref sig .tc .vmem S64x128 .f32) (harg8 : arg8.IsWhole)
  (arg9 : Memref sig .tc .vmem S8x64 .f32) (harg9 : arg9.IsWhole)
  (arg10 : Memref sig .tc .vmem S64x128 .f32) (harg10 : arg10.IsWhole)
  (x0 : Vec F S10000x64 .f32) (x1 : Vec F S10000x128 .f32) (x2 : Vec F S128x128 .f32)
  (x3 : Vec F S10000x64 .f32) (x4 : Vec F S10000x128 .f32)

set_option maxHeartbeats 1000000 in
/-- A collecting point after the first: from the sums and counts it finds, the body leaves those of one more block, and everything else as it was. -/
theorem run_collect (hc0 : ¬isFirst i) (hc1 : isCollect i) (hc2 : ¬isTurn i) (hc3 : ¬isRecover i)
    (x5 : Vec F S10000x128 .f32) (x6 : Vec F S10000x1 .f32) (xs0 : Vec F S64x128 .f32) (xs1 : Vec F S8x64 .f32) (xs2 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (accStep x0 x1 xs0) ∗ owns (c : Thread nD τ) arg9 fullShare (cntStep x0 xs1) ∗ owns (c : Thread nD τ) arg10 fullShare xs2) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hf5; obtain rfl := harg7.eq_unread hf6; obtain rfl := harg8.eq_unread hfs0; obtain rfl := harg9.eq_unread hfs1; obtain rfl := harg10.eq_unread hfs2
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    · ipureintro
      exact harg6.read_unread _
    iexact H5
  isplitl [H6]
  · iexists _; isplitr
    · ipureintro
      exact harg7.read_unread _
    iexact H6
  isplitl [HS0]
  · iexists _; isplitr; swap; · iexact HS0
    ipureintro
    refine (View.read_writes_full arg8.view _ _ _ _).trans ?_
    unfold accStep
    refine (congr (congrArg k0_pay3 (congr (congrArg k0_pay25 (load_rows64 harg1 8000 _ x0)) (load_rows128 harg2 8000 _ x1))) ?_).trans (sums_fifth _ _ _)
    refine (View.readCov_full arg8.view _ _ _ _).trans ?_
    refine (congr (congr (congr (congr (congrArg k0_pay22 (load_rows128 harg2 6000 _ x1)) (congrArg k0_pay18 (load_rows64 harg1 6000 _ x0))) rfl) rfl) ?_).trans (sums_fourth _ _ _)
    refine (View.readCov_full arg8.view _ _ _ _).trans ?_
    refine (congr (congr (congr (congrArg k0_pay16 (load_rows128 harg2 4000 _ x1)) rfl) (congrArg k0_pay14 (load_rows64 harg1 4000 _ x0))) ?_).trans (sums_third _ _ _)
    refine (View.readCov_full arg8.view _ _ _ _).trans ?_
    refine (congr (congr (congr (congrArg k0_pay12 (load_rows64 harg1 2000 _ x0)) (load_rows128 harg2 2000 _ x1)) (congrArg k0_pay10 (load_rows64 harg1 2000 _ x0))) ?_).trans (sums_second _ _ _)
    refine (View.readCov_full arg8.view _ _ _ _).trans ?_
    refine congr (congr (congrArg k0_pay8 (load_rows64 harg1 0 _ x0)) (load_rows128 harg2 0 _ x1)) ?_
    exact load_acc harg8 _ xs0
  isplitl [HS1]
  · iexists _; isplitr; swap; · iexact HS1
    ipureintro
    refine (View.read_writes_full arg9.view _ _ _ _).trans ?_
    unfold cntStep
    refine (congr (congrArg k0_pay4 (congrArg k0_pay26 (load_rows64 harg1 8000 _ x0))) ?_).trans (counts_fifth _ _)
    refine (View.readCov_full arg9.view _ _ _ _).trans ?_
    refine (congr (congr (congr (congrArg k0_pay23 (congrArg k0_pay18 (load_rows64 harg1 6000 _ x0))) rfl) rfl) ?_).trans (counts_fourth _ _)
    refine (View.readCov_full arg9.view _ _ _ _).trans ?_
    refine (congr (congr (congrArg k0_pay17 rfl) (congrArg k0_pay14 (load_rows64 harg1 4000 _ x0))) ?_).trans (counts_third _ _)
    refine (View.readCov_full arg9.view _ _ _ _).trans ?_
    refine (congr (congr (congrArg k0_pay13 (load_rows64 harg1 2000 _ x0)) (congrArg k0_pay10 (load_rows64 harg1 2000 _ x0))) ?_).trans (counts_second _ _)
    refine (View.readCov_full arg9.view _ _ _ _).trans ?_
    refine congr (congrArg k0_pay9 (load_rows64 harg1 0 _ x0)) ?_
    exact load_cnt harg9 _ xs1
  iexists _; isplitr
  · ipureintro
    exact harg10.read_unread _
  iexact HS2

end Cert.Refine

end
-- ==== Proof.Run.Turn.lean ====
module

public import proofs.«01_k».proof.Proof.Run.Chunks

/-! The body's run at point ten. -/

@[expose] public section

set_option maxRecDepth 16384

noncomputable section

namespace Cert.Refine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S10000x64 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S10000x64 .f32) (harg4 : arg4.IsWhole)
  (arg5 : Memref sig .tc .vmem S10000x128 .f32) (harg5 : arg5.IsWhole)
  (arg6 : Memref sig .tc .vmem S10000x128 .f32) (harg6 : arg6.IsWhole)
  (arg7 : Memref sig .tc .vmem S10000x1 .f32) (harg7 : arg7.IsWhole)
  (arg8 : Memref sig .tc .vmem S64x128 .f32) (harg8 : arg8.IsWhole)
  (arg9 : Memref sig .tc .vmem S8x64 .f32) (harg9 : arg9.IsWhole)
  (arg10 : Memref sig .tc .vmem S64x128 .f32) (harg10 : arg10.IsWhole)
  (x0 : Vec F S10000x64 .f32) (x1 : Vec F S10000x128 .f32) (x2 : Vec F S128x128 .f32)
  (x3 : Vec F S10000x64 .f32) (x4 : Vec F S10000x128 .f32)

set_option maxHeartbeats 1000000 in
/-- Point ten: the body forms the projected prototypes from the sums and counts it finds, and writes both outputs' blocks from them. -/
theorem run_turn (hc0 : ¬isFirst i) (hc1 : ¬isCollect i) (hc2 : isTurn i) (hc3 : isRecover i)
    (xs0 : Vec F S64x128 .f32) (xs1 : Vec F S8x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlock x3 x4 (protoOf xs0 xs1 x2)) ∗ owns (c : Thread nD τ) arg7 fullShare (confBlock x3) ∗ owns (c : Thread nD τ) arg8 fullShare xs0 ∗ owns (c : Thread nD τ) arg9 fullShare xs1 ∗ owns (c : Thread nD τ) arg10 fullShare (protoOf xs0 xs1 x2)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%ds2, %fs2, -, HS2⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hfs0; obtain rfl := harg9.eq_unread hfs1
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine Eq.trans (congrArg (fun L => arg6.view.read (Elt F) (arg6.view.writes (Elt F) f5 L)) ?_) (View.read_writes_of_cover arg6.view f5 outV outV.junk (outPieces x3 x4 (protoOf xs0 xs1 x2)) (outPieces_cover x3 x4 (protoOf xs0 xs1 x2)))
    have hp := load_stored arg10 _ _ (proto_load harg8 harg9 harg3 xs0 xs1 x2)
    refine congr (congrArg List.cons (congrArg (fun w => (⟨_, w⟩ : View.Piece (Elt F) S10000x128 .f32)) ?_)) (congr (congrArg List.cons (congrArg (fun w => (⟨_, w⟩ : View.Piece (Elt F) S10000x128 .f32)) ?_)) (congr (congrArg List.cons (congrArg (fun w => (⟨_, w⟩ : View.Piece (Elt F) S10000x128 .f32)) ?_)) (congr (congrArg List.cons (congrArg (fun w => (⟨_, w⟩ : View.Piece (Elt F) S10000x128 .f32)) ?_)) (congr (congrArg List.cons (congrArg (fun w => (⟨_, w⟩ : View.Piece (Elt F) S10000x128 .f32)) ?_)) rfl))))
    · exact (congr (congr (congrArg k0_pay63 (load_rows64 harg4 8000 _ x3)) hp) (load_rows128 harg5 8000 _ x4)).trans (out_fifth _ _ _)
    · exact (congr (congr (congrArg k0_pay56 (congrArg k0_pay54 (load_rows64 harg4 6000 _ x3))) (congr (congrArg k0_pay55 (load_rows64 harg4 6000 _ x3)) hp)) (load_rows128 harg5 6000 _ x4)).trans (out_fourth _ _ _)
    · exact (congr (congr (congr (congr (congrArg k0_pay48 (congrArg k0_pay43 (load_rows64 harg4 4000 _ x3))) (congrArg k0_pay45 (load_rows64 harg4 4000 _ x3))) (congrArg k0_pay46 (load_rows64 harg4 4000 _ x3))) hp) (load_rows128 harg5 4000 _ x4)).trans (out_third _ _ _)
    · exact (congr (congr (congr (congr (congrArg k0_pay40 (congrArg k0_pay34 (load_rows64 harg4 2000 _ x3))) (congrArg k0_pay35 (load_rows64 harg4 2000 _ x3))) (congrArg k0_pay36 (load_rows64 harg4 2000 _ x3))) hp) (load_rows128 harg5 2000 _ x4)).trans (out_second _ _ _)
    · exact congr (congr (congrArg k0_pay32 (load_rows64 harg4 0 _ x3)) hp) (load_rows128 harg5 0 _ x4)
  isplitl [H6]
  · iexists _; isplitr; swap; · iexact H6
    ipureintro
    refine Eq.trans (congrArg (fun L => arg7.view.read (Elt F) (arg7.view.writes (Elt F) f6 L)) ?_) (View.read_writes_of_cover arg7.view f6 confV confV.junk (confPieces x3) (confPieces_cover x3))
    refine congr (congrArg List.cons (congrArg (fun w => (⟨_, w⟩ : View.Piece (Elt F) S10000x1 .f32)) ?_)) (congr (congrArg List.cons (congrArg (fun w => (⟨_, w⟩ : View.Piece (Elt F) S10000x1 .f32)) ?_)) (congr (congrArg List.cons (congrArg (fun w => (⟨_, w⟩ : View.Piece (Elt F) S10000x1 .f32)) ?_)) (congr (congrArg List.cons (congrArg (fun w => (⟨_, w⟩ : View.Piece (Elt F) S10000x1 .f32)) ?_)) (congr (congrArg List.cons (congrArg (fun w => (⟨_, w⟩ : View.Piece (Elt F) S10000x1 .f32)) ?_)) rfl))))
    · exact (congrArg (fun v => k0_pay6 (k0_pay62 v) k0_pay64) (load_rows64 harg4 8000 _ x3)).trans (conf_fifth _)
    · exact (congrArg (fun v => k0_pay57 (k0_pay54 v)) (load_rows64 harg4 6000 _ x3)).trans (conf_fourth _)
    · exact (congrArg (fun v => k0_pay49 (k0_pay46 v)) (load_rows64 harg4 4000 _ x3)).trans (conf_third _)
    · exact (congrArg (fun v => k0_pay41 (k0_pay34 v) (k0_pay35 v) (k0_pay36 v)) (load_rows64 harg4 2000 _ x3)).trans (conf_second _)
    · exact congrArg k0_pay33 (load_rows64 harg4 0 _ x3)
  isplitl [HS0]
  · iexists _; isplitr
    · ipureintro
      exact harg8.read_unread _
    iexact HS0
  isplitl [HS1]
  · iexists _; isplitr
    · ipureintro
      exact harg9.read_unread _
    iexact HS1
  iexists _; isplitr; swap; · iexact HS2
  ipureintro
  exact (View.read_writes_full arg10.view _ _ _ _).trans (proto_load harg8 harg9 harg3 xs0 xs1 x2)

end Cert.Refine

end
-- ==== Proof.Run.Recover.lean ====
module

public import proofs.«01_k».proof.Proof.Run.Chunks

/-! The body's run at a recovering point after the tenth. -/

@[expose] public section

set_option maxRecDepth 16384

noncomputable section

namespace Cert.Refine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S10000x64 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S10000x64 .f32) (harg4 : arg4.IsWhole)
  (arg5 : Memref sig .tc .vmem S10000x128 .f32) (harg5 : arg5.IsWhole)
  (arg6 : Memref sig .tc .vmem S10000x128 .f32) (harg6 : arg6.IsWhole)
  (arg7 : Memref sig .tc .vmem S10000x1 .f32) (harg7 : arg7.IsWhole)
  (arg8 : Memref sig .tc .vmem S64x128 .f32) (harg8 : arg8.IsWhole)
  (arg9 : Memref sig .tc .vmem S8x64 .f32) (harg9 : arg9.IsWhole)
  (arg10 : Memref sig .tc .vmem S64x128 .f32) (harg10 : arg10.IsWhole)
  (x0 : Vec F S10000x64 .f32) (x1 : Vec F S10000x128 .f32) (x2 : Vec F S128x128 .f32)
  (x3 : Vec F S10000x64 .f32) (x4 : Vec F S10000x128 .f32)

set_option maxHeartbeats 1000000 in
/-- A recovering point after the tenth: the body writes both outputs' blocks from the projected prototypes it finds, and leaves everything else as it was. -/
theorem run_recover (hc0 : ¬isFirst i) (hc1 : ¬isCollect i) (hc2 : ¬isTurn i) (hc3 : isRecover i)
    (xs0 : Vec F S64x128 .f32) (xs1 : Vec F S8x64 .f32) (xs2 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlock x3 x4 xs2) ∗ owns (c : Thread nD τ) arg7 fullShare (confBlock x3) ∗ owns (c : Thread nD τ) arg8 fullShare xs0 ∗ owns (c : Thread nD τ) arg9 fullShare xs1 ∗ owns (c : Thread nD τ) arg10 fullShare xs2) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hfs0; obtain rfl := harg9.eq_unread hfs1; obtain rfl := harg10.eq_unread hfs2
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine Eq.trans (congrArg (fun L => arg6.view.read (Elt F) (arg6.view.writes (Elt F) f5 L)) ?_) (View.read_writes_of_cover arg6.view f5 outV outV.junk (outPieces x3 x4 xs2) (outPieces_cover x3 x4 xs2))
    have hp := load_acc harg10 inb_S64x128_S64x128_0_0 xs2
    refine congr (congrArg List.cons (congrArg (fun w => (⟨_, w⟩ : View.Piece (Elt F) S10000x128 .f32)) ?_)) (congr (congrArg List.cons (congrArg (fun w => (⟨_, w⟩ : View.Piece (Elt F) S10000x128 .f32)) ?_)) (congr (congrArg List.cons (congrArg (fun w => (⟨_, w⟩ : View.Piece (Elt F) S10000x128 .f32)) ?_)) (congr (congrArg List.cons (congrArg (fun w => (⟨_, w⟩ : View.Piece (Elt F) S10000x128 .f32)) ?_)) (congr (congrArg List.cons (congrArg (fun w => (⟨_, w⟩ : View.Piece (Elt F) S10000x128 .f32)) ?_)) rfl))))
    · exact (congr (congr (congrArg k0_pay63 (load_rows64 harg4 8000 _ x3)) hp) (load_rows128 harg5 8000 _ x4)).trans (out_fifth _ _ _)
    · exact (congr (congr (congrArg k0_pay56 (congrArg k0_pay54 (load_rows64 harg4 6000 _ x3))) (congr (congrArg k0_pay55 (load_rows64 harg4 6000 _ x3)) hp)) (load_rows128 harg5 6000 _ x4)).trans (out_fourth _ _ _)
    · exact (congr (congr (congr (congr (congrArg k0_pay48 (congrArg k0_pay43 (load_rows64 harg4 4000 _ x3))) (congrArg k0_pay45 (load_rows64 harg4 4000 _ x3))) (congrArg k0_pay46 (load_rows64 harg4 4000 _ x3))) hp) (load_rows128 harg5 4000 _ x4)).trans (out_third _ _ _)
    · exact (congr (congr (congr (congr (congrArg k0_pay40 (congrArg k0_pay34 (load_rows64 harg4 2000 _ x3))) (congrArg k0_pay35 (load_rows64 harg4 2000 _ x3))) (congrArg k0_pay36 (load_rows64 harg4 2000 _ x3))) hp) (load_rows128 harg5 2000 _ x4)).trans (out_second _ _ _)
    · exact congr (congr (congrArg k0_pay32 (load_rows64 harg4 0 _ x3)) hp) (load_rows128 harg5 0 _ x4)
  isplitl [H6]
  · iexists _; isplitr; swap; · iexact H6
    ipureintro
    refine Eq.trans (congrArg (fun L => arg7.view.read (Elt F) (arg7.view.writes (Elt F) f6 L)) ?_) (View.read_writes_of_cover arg7.view f6 confV confV.junk (confPieces x3) (confPieces_cover x3))
    refine congr (congrArg List.cons (congrArg (fun w => (⟨_, w⟩ : View.Piece (Elt F) S10000x1 .f32)) ?_)) (congr (congrArg List.cons (congrArg (fun w => (⟨_, w⟩ : View.Piece (Elt F) S10000x1 .f32)) ?_)) (congr (congrArg List.cons (congrArg (fun w => (⟨_, w⟩ : View.Piece (Elt F) S10000x1 .f32)) ?_)) (congr (congrArg List.cons (congrArg (fun w => (⟨_, w⟩ : View.Piece (Elt F) S10000x1 .f32)) ?_)) (congr (congrArg List.cons (congrArg (fun w => (⟨_, w⟩ : View.Piece (Elt F) S10000x1 .f32)) ?_)) rfl))))
    · exact (congrArg (fun v => k0_pay6 (k0_pay62 v) k0_pay64) (load_rows64 harg4 8000 _ x3)).trans (conf_fifth _)
    · exact (congrArg (fun v => k0_pay57 (k0_pay54 v)) (load_rows64 harg4 6000 _ x3)).trans (conf_fourth _)
    · exact (congrArg (fun v => k0_pay49 (k0_pay46 v)) (load_rows64 harg4 4000 _ x3)).trans (conf_third _)
    · exact (congrArg (fun v => k0_pay41 (k0_pay34 v) (k0_pay35 v) (k0_pay36 v)) (load_rows64 harg4 2000 _ x3)).trans (conf_second _)
    · exact congrArg k0_pay33 (load_rows64 harg4 0 _ x3)
  isplitl [HS0]
  · iexists _; isplitr
    · ipureintro
      exact harg8.read_unread _
    iexact HS0
  isplitl [HS1]
  · iexists _; isplitr
    · ipureintro
      exact harg9.read_unread _
    iexact HS1
  iexists _; isplitr
  · ipureintro
    exact harg10.read_unread _
  iexact HS2

end Cert.Refine

end
-- ==== Proof.Run.Launch.lean ====
module

public import proofs.«01_k».proof.Proof.Run.First
public import proofs.«01_k».proof.Proof.Run.Collect
public import proofs.«01_k».proof.Proof.Run.Turn
public import proofs.«01_k».proof.Proof.Run.Recover
public import Idealize.ShloMosaic.Lib.Claim

/-! The whole launch of the idealized kernel. What the three scratch buffers hold after each grid point, the body at a
generic point, the run of @main, and the frame claim: every execution ends, with the arguments unchanged and every
semaphore counter at zero. -/

@[expose] public section

set_option maxRecDepth 16384

noncomputable section

namespace Cert.Refine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch buffers hold -/

/-- The bucket sums after `n` blocks of rows are collected. -/
def sumsAfter (c : Dev nD) : ℕ → Vec F S64x128 .f32
  | 0 => k0_pay1 (F := F)
  | n + 1 => if h : n < cfg0.N then accStep (iblk m c 0 ⟨n, h⟩) (iblk m c 1 ⟨n, h⟩) (sumsAfter c n) else sumsAfter c n

/-- The bucket counts after `n` blocks of rows are collected. -/
def countsAfter (c : Dev nD) : ℕ → Vec F S8x64 .f32
  | 0 => k0_pay2 (F := F)
  | n + 1 => if h : n < cfg0.N then cntStep (iblk m c 0 ⟨n, h⟩) (countsAfter c n) else countsAfter c n

theorem sumsAfter_succ (c : Dev nD) (t : Fin cfg0.N) :
    sumsAfter m c (t.val + 1) = accStep (iblk m c 0 t) (iblk m c 1 t) (sumsAfter m c t.val) := by
  rw [sumsAfter, dif_pos t.isLt]
theorem countsAfter_succ (c : Dev nD) (t : Fin cfg0.N) :
    countsAfter m c (t.val + 1) = cntStep (iblk m c 0 t) (countsAfter m c t.val) := by
  rw [countsAfter, dif_pos t.isLt]

/-- The point at which the projected prototypes are formed. -/
abbrev turn : Fin cfg0.N := ⟨10, by decide⟩

/-- The projected prototypes. -/
def protoAll (c : Dev nD) : Vec F S64x128 .f32 := protoOf (sumsAfter m c 10) (countsAfter m c 10) (iblk m c 2 turn)

/-- What the projected prototypes' buffer is known to hold after `n` points. -/
def protoHeld (c : Dev nD) (n : ℕ) : sProp 𝕄 :=
  if n ≤ 10 then iprop(∃ d, owns (c : Thread nD τ) protoM fullShare d) else owns (c : Thread nD τ) protoM fullShare (protoAll m c)

/-- What is known besides the windows after `n` points: at first nothing, then the sums and counts collected so far and,
    after point ten, the projected prototypes. -/
def held (c : Dev nD) : ℕ → sProp 𝕄
  | 0 => Pipeline.ΦA spec0 c
  | n + 1 => iprop(iprop(owns (c : Thread nD τ) accM fullShare (sumsAfter m c (min (n + 1) 10)) ∗ owns (c : Thread nD τ) cntM fullShare (countsAfter m c (min (n + 1) 10)) ∗ protoHeld m c (n + 1)) ∗ (∃ r, prngReg c r))

theorem held_pos (c : Dev nD) (n : ℕ) (hn : n ≠ 0) :
    held m c n = iprop(iprop(owns (c : Thread nD τ) accM fullShare (sumsAfter m c (min n 10)) ∗ owns (c : Thread nD τ) cntM fullShare (countsAfter m c (min n 10)) ∗ protoHeld m c n) ∗ (∃ r, prngReg c r)) := by
  obtain _ | k := n
  · exact absurd rfl hn
  · rfl

/-! ## The proof data -/

/-- The proof data: the inputs stay at their blocks, the outputs end at the recovered blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 3 t) (iblk m c 4 t) (protoAll m c)
    | ⟨6, _⟩ => confBlock (iblk m c 3 t)
  Φ t := held m c t.val
  q _ := fullShare
  owed _ := 0

/-- The proof data's arrays are what the region finds. -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) : (dats m 0 c).after 5 t = outBlock (iblk m c 3 t) (iblk m c 4 t) (protoAll m c) := by dsimp only [dats]
theorem after_conf (c : Dev nD) (t : Fin cfg0.N) : (dats m 0 c).after 6 t = confBlock (iblk m c 3 t) := by dsimp only [dats]

/-- Each input's staging buffer holds its block at every point. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d

/-! ## The body at a point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- What the body returns at a point, window by window. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- What the body leaves in each window, at its closed form. -/
theorem leaves_in0 (c : Dev nD) (t : Fin cfg0.N) : (dats m 0 c).leavesExact 0 t = owns (c : Thread nD τ) (st0 t) fullShare (iblk m c 0 t) := by
  unfold Dat.leavesExact; rw [live_in0 t, after_in0]
theorem leaves_in1 (c : Dev nD) (t : Fin cfg0.N) : (dats m 0 c).leavesExact 1 t = owns (c : Thread nD τ) (st1 t) fullShare (iblk m c 1 t) := by
  unfold Dat.leavesExact; rw [live_in1 t, after_in1]
theorem leaves_in2 (c : Dev nD) (t : Fin cfg0.N) : (dats m 0 c).leavesExact 2 t = owns (c : Thread nD τ) (st2 t) fullShare (iblk m c 2 t) := by
  unfold Dat.leavesExact; rw [live_in2 t, after_in2]
theorem leaves_in3 (c : Dev nD) (t : Fin cfg0.N) : (dats m 0 c).leavesExact 3 t = owns (c : Thread nD τ) (st3 t) fullShare (iblk m c 3 t) := by
  unfold Dat.leavesExact; rw [live_in3 t, after_in3]
theorem leaves_in4 (c : Dev nD) (t : Fin cfg0.N) : (dats m 0 c).leavesExact 4 t = owns (c : Thread nD τ) (st4 t) fullShare (iblk m c 4 t) := by
  unfold Dat.leavesExact; rw [live_in4 t, after_in4]
theorem leaves_out (c : Dev nD) (t : Fin cfg0.N) (h : ¬ t.val < 10) :
    (dats m 0 c).leavesExact 5 t = owns (c : Thread nD τ) (st5 t) fullShare (outBlock (iblk m c 3 t) (iblk m c 4 t) (protoAll m c)) := by
  unfold Dat.leavesExact; rw [live_out t h, after_out]
theorem leaves_conf (c : Dev nD) (t : Fin cfg0.N) (h : ¬ t.val < 10) :
    (dats m 0 c).leavesExact 6 t = owns (c : Thread nD τ) (st6 t) fullShare (confBlock (iblk m c 3 t)) := by
  unfold Dat.leavesExact; rw [live_conf t h, after_conf]

set_option maxHeartbeats 3200000 in
/-- The body at the first point. -/
theorem sound_first (c : Dev nD) (t : Fin cfg0.N) (hz : t.val = 0) :
    bodyPre m c t ⊢ wp frame (wpE (defs₀ (F := F)) Variants.none c none) Set.univ (bodyAt0 t) (fun _ => bodyPost m c t) := by
  have hlt : t.val < 10 := by omega
  unfold bodyPre bodyPost bodyAt0
  simp only [before_in0, before_in1, before_in2, before_in3, before_in4, leaves_in0, leaves_in1, leaves_in2, leaves_in3, leaves_in4]
  rw [show (dats m 0 c).owesAt () t.succ = (dats m 0 c).owesAt () t.castSucc from rfl]
  rw [show (dats m 0 c).Φ t.succ = held m c (t.val + 1) from rfl, show (dats m 0 c).Φ t.castSucc = held m c t.val from rfl]
  rw [Dat.leavesExact_idle (dats m 0 c) 5 t (idle_out t hlt) (noFlush_out t hlt), Dat.leavesExact_idle (dats m 0 c) 6 t (idle_conf t hlt) (noFlush_conf t hlt)]
  rw [held_pos m c (t.val + 1) (by omega), show min (t.val + 1) 10 = t.val + 1 by omega, sumsAfter_succ, countsAfter_succ, show t.val = 0 from hz]
  unfold protoHeld
  rw [if_pos (show (0 : ℕ) + 1 ≤ 10 by omega), show held m c 0 = Pipeline.ΦA spec0 c from rfl, rest_eq]
  iintro ⟨⟨⟨HS0, HS1, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords t) (st0 t) (hst0 t) (st1 t) (hst1 t) (st2 t) (hst2 t) (st3 t) (hst3 t) (st4 t) (hst4 t) (st5 t) (hst5 t) (st6 t) (hst6 t) accM (Memref.isWhole_whole _) cntM (Memref.isWhole_whole _) protoM (Memref.isWhole_whole _) (iblk m c 0 t) (iblk m c 1 t) (iblk m c 2 t) (iblk m c 3 t) (iblk m c 4 t) ((isFirst_iff t).mpr hz) ((isCollect_iff t).mpr hlt) (fun h => absurd ((isTurn_iff t).mp h) (by omega)) (fun h => absurd ((isRecover_iff t).mp h) (by omega)) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 3200000 in
/-- The body at the later points that collect rows. -/
theorem sound_collect (c : Dev nD) (t : Fin cfg0.N) (hz : t.val ≠ 0) (hlt : t.val < 10) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, leaves_in0, leaves_in1, leaves_in2, leaves_in3, leaves_in4]
  rw [show (dats m 0 c).owesAt () t.succ = (dats m 0 c).owesAt () t.castSucc from rfl]
  rw [show (dats m 0 c).Φ t.succ = held m c (t.val + 1) from rfl, show (dats m 0 c).Φ t.castSucc = held m c t.val from rfl]
  rw [Dat.leavesExact_idle (dats m 0 c) 5 t (idle_out t hlt) (noFlush_out t hlt), Dat.leavesExact_idle (dats m 0 c) 6 t (idle_conf t hlt) (noFlush_conf t hlt)]
  rw [held_pos m c (t.val + 1) (by omega), held_pos m c t.val hz, show min (t.val + 1) 10 = t.val + 1 by omega, show min t.val 10 = t.val by omega, sumsAfter_succ, countsAfter_succ]
  unfold protoHeld
  rw [if_pos (show t.val + 1 ≤ 10 by omega), if_pos (show t.val ≤ 10 by omega)]
  iintro ⟨⟨⟨HS0, HS1, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩⟩
  iapply (run_collect c (grid0.coords t) (st0 t) (hst0 t) (st1 t) (hst1 t) (st2 t) (hst2 t) (st3 t) (hst3 t) (st4 t) (hst4 t) (st5 t) (hst5 t) (st6 t) (hst6 t) accM (Memref.isWhole_whole _) cntM (Memref.isWhole_whole _) protoM (Memref.isWhole_whole _) (iblk m c 0 t) (iblk m c 1 t) (iblk m c 2 t) (iblk m c 3 t) (iblk m c 4 t) (fun h => hz ((isFirst_iff t).mp h)) ((isCollect_iff t).mpr hlt) (fun h => absurd ((isTurn_iff t).mp h) (by omega)) (fun h => absurd ((isRecover_iff t).mp h) (by omega)) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 3200000 in
/-- The body at point ten. -/
theorem sound_turn (c : Dev nD) (t : Fin cfg0.N) (ht : t.val = 10) :
    bodyPre m c t ⊢ wp frame (wpE (defs₀ (F := F)) Variants.none c none) Set.univ (bodyAt0 t) (fun _ => bodyPost m c t) := by
  have hnlt : ¬ t.val < 10 := by omega
  unfold bodyPre bodyPost bodyAt0
  simp only [before_in0, before_in1, before_in2, before_in3, before_in4, leaves_in0, leaves_in1, leaves_in2, leaves_in3, leaves_in4]
  rw [show (dats m 0 c).owesAt () t.succ = (dats m 0 c).owesAt () t.castSucc from rfl]
  rw [show (dats m 0 c).Φ t.succ = held m c (t.val + 1) from rfl, show (dats m 0 c).Φ t.castSucc = held m c t.val from rfl]
  rw [leaves_out m c t hnlt, leaves_conf m c t hnlt]
  obtain rfl : t = turn := Fin.ext ht
  rw [held_pos m c _ (by decide), held_pos m c _ (by decide), show min ((turn : Fin cfg0.N).val + 1) 10 = 10 from rfl, show min (turn : Fin cfg0.N).val 10 = 10 from rfl]
  unfold protoHeld
  rw [if_neg (show ¬ (turn : Fin cfg0.N).val + 1 ≤ 10 by decide), if_pos (show (turn : Fin cfg0.N).val ≤ 10 by decide)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (run_turn c (grid0.coords turn) (st0 turn) (hst0 turn) (st1 turn) (hst1 turn) (st2 turn) (hst2 turn) (st3 turn) (hst3 turn) (st4 turn) (hst4 turn) (st5 turn) (hst5 turn) (st6 turn) (hst6 turn) accM (Memref.isWhole_whole _) cntM (Memref.isWhole_whole _) protoM (Memref.isWhole_whole _) (iblk m c 0 turn) (iblk m c 1 turn) (iblk m c 2 turn) (iblk m c 3 turn) (iblk m c 4 turn) (fun h => absurd ((isFirst_iff turn).mp h) (by decide)) (fun h => absurd ((isCollect_iff turn).mp h) (by decide)) ((isTurn_iff turn).mpr rfl) ((isRecover_iff turn).mpr (by decide)) _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 3200000 in
/-- The body at the points after the tenth. -/
theorem sound_recover (c : Dev nD) (t : Fin cfg0.N) (hgt : 10 < t.val) :
    bodyPre m c t ⊢ wp frame (wpE (defs₀ (F := F)) Variants.none c none) Set.univ (bodyAt0 t) (fun _ => bodyPost m c t) := by
  have hnlt : ¬ t.val < 10 := by omega
  unfold bodyPre bodyPost bodyAt0
  simp only [before_in0, before_in1, before_in2, before_in3, before_in4, leaves_in0, leaves_in1, leaves_in2, leaves_in3, leaves_in4]
  rw [show (dats m 0 c).owesAt () t.succ = (dats m 0 c).owesAt () t.castSucc from rfl]
  rw [show (dats m 0 c).Φ t.succ = held m c (t.val + 1) from rfl, show (dats m 0 c).Φ t.castSucc = held m c t.val from rfl]
  rw [leaves_out m c t hnlt, leaves_conf m c t hnlt]
  rw [held_pos m c (t.val + 1) (by omega), held_pos m c t.val (by omega), show min (t.val + 1) 10 = 10 by omega, show min t.val 10 = 10 by omega]
  unfold protoHeld
  rw [if_neg (show ¬ t.val + 1 ≤ 10 by omega), if_neg (show ¬ t.val ≤ 10 by omega)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (run_recover c (grid0.coords t) (st0 t) (hst0 t) (st1 t) (hst1 t) (st2 t) (hst2 t) (st3 t) (hst3 t) (st4 t) (hst4 t) (st5 t) (hst5 t) (st6 t) (hst6 t) accM (Memref.isWhole_whole _) cntM (Memref.isWhole_whole _) protoM (Memref.isWhole_whole _) (iblk m c 0 t) (iblk m c 1 t) (iblk m c 2 t) (iblk m c 3 t) (iblk m c 4 t) (fun h => absurd ((isFirst_iff t).mp h) (by omega)) (fun h => absurd ((isCollect_iff t).mp h) (by omega)) (fun h => absurd ((isTurn_iff t).mp h) (by omega)) ((isRecover_iff t).mpr (by omega)) _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  by_cases hlt : t.val < 10
  · exact sound_collect m c t hz hlt
  by_cases ht : t.val = 10
  · exact sound_turn m c t ht
  · exact sound_recover m c t (by omega)

/-- The body table's row at a point's slots is the body. -/
theorem body_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands the region is what is known before the first point. -/
theorem entry (c : Dev nD) : Pipeline.ΦA spec0 c ⊢ (dats m 0 c).Φ 0 := by
  rw [show (dats m 0 c).Φ 0 = Pipeline.ΦA spec0 c from rfl]

/-- After the last point the scratch is handed back, its contents forgotten. -/
theorem exit (c : Dev nD) : (dats m 0 c).Φ (Fin.last cfg0.N) ⊢ Pipeline.ΦA spec0 c := by
  rw [show (dats m 0 c).Φ (Fin.last cfg0.N) = held m c 20 from rfl, held_pos m c 20 (by decide), rest_eq]
  unfold protoHeld
  rw [if_neg (show ¬ 20 ≤ 10 by decide)]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
set_option maxHeartbeats 800000 in
/-- Every execution of @main ends, every array of the pipeline at what the proof data gives it, the buffers the line
    after the region writes at what that line writes, and every semaphore counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := entry m) (hout := exit m)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim of the idealized kernel, at any carrier of the floats. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiescent m ρ))

end Cert.Refine

end
-- ==== Proof.Ref.Run.lean ====
module

public import proofs.«01_k».proof.Proof.Gen.ReferenceIdeal
public import Idealize.ShloMosaic.Lib.StableHlo.Run

/-! The reference's run: a straight line of 75 host operations, what each of its two results is of the arguments, stage
by stage, and that every execution ends there with the arguments unchanged. -/

@[expose] public section

noncomputable section

namespace Cert.Refine.Ref

open Cert.ReferenceIdeal Cert.ReferenceIdeal.Gen Idealize.ShloMosaic Idealize.ShloMosaic.TcCoe Idealize.SL.Sem Idealize.ShloMosaic.StableHlo

variable {F : FTy → Type} [FloatOps F]

/-- The reference's operations, in order, a called function's in its call's place. -/
abbrev hostLine : List (HloOp τ sig (Elt F)) :=
  [ TRef.nullary (TRef.of (T := ⟨S100000x64, .i32⟩) main_call0_v0) (iotaInDim S100000x64 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S100000x64, .f32⟩) main_arg3) (TRef.of (T := ⟨S100000x64, .i32⟩) main_call0_v0) (TRef.of (T := ⟨S_, .f32⟩) main_call0_cst) (TRef.of (T := ⟨S_, .i32⟩) main_call0_c) (TRef.of (T := ⟨S100000, .f32⟩) main_call0_v1_0) (fun x y u v j => (Host.argReduce reducer_argmax_f32_i32 x y u v reducesTo_S100000x64_S100000_d1 h_S_ j).1),
    TRef.quaternary (TRef.of (T := ⟨S100000x64, .f32⟩) main_arg3) (TRef.of (T := ⟨S100000x64, .i32⟩) main_call0_v0) (TRef.of (T := ⟨S_, .f32⟩) main_call0_cst) (TRef.of (T := ⟨S_, .i32⟩) main_call0_c) (TRef.of (T := ⟨S100000, .i32⟩) main_v0) (fun x y u v j => (Host.argReduce reducer_argmax_f32_i32 x y u v reducesTo_S100000x64_S100000_d1 h_S_ j).2),
    nullary main_cst (constant S_ .f32 0xFF800000#32),
    binary main_arg2 main_cst main_v1 ((fun x v => Host.reduce FloatOps.maximumf x v reducesTo_S100000x64_S100000_d1 h_S_) : (⟨S100000x64, .f32⟩ : BufTy).Contents (Elt F) → (⟨S_, .f32⟩ : BufTy).Contents (Elt F) → (⟨S100000, .f32⟩ : BufTy).Contents (Elt F)),
    nullary main_cst_0 (constant S_ .f32 0xFF800000#32),
    unary main_cst_0 main_v2 (broadcastInDim S100000 ![] bcast_S_S100000 : (⟨S_, .f32⟩ : BufTy).Contents (Elt F) → (⟨S100000, .f32⟩ : BufTy).Contents (Elt F)),
    binary main_v2 main_v1 main_v3 (maximumf : (⟨S100000, .f32⟩ : BufTy).Contents (Elt F) → (⟨S100000, .f32⟩ : BufTy).Contents (Elt F) → (⟨S100000, .f32⟩ : BufTy).Contents (Elt F)),
    unary main_v3 main_v4 (broadcastInDim S100000x1 ![0] bcast_S100000_S100000x1_0 : (⟨S100000, .f32⟩ : BufTy).Contents (Elt F) → (⟨S100000x1, .f32⟩ : BufTy).Contents (Elt F)),
    unary main_v4 main_v5 (broadcastInDim S100000x64 ![0, 1] bcast_S100000x1_S100000x64_0_1 : (⟨S100000x1, .f32⟩ : BufTy).Contents (Elt F) → (⟨S100000x64, .f32⟩ : BufTy).Contents (Elt F)),
    binary main_arg2 main_v5 main_v6 (subf : (⟨S100000x64, .f32⟩ : BufTy).Contents (Elt F) → (⟨S100000x64, .f32⟩ : BufTy).Contents (Elt F) → (⟨S100000x64, .f32⟩ : BufTy).Contents (Elt F)),
    unary main_v6 main_v7 (Host.exp : (⟨S100000x64, .f32⟩ : BufTy).Contents (Elt F) → (⟨S100000x64, .f32⟩ : BufTy).Contents (Elt F)),
    nullary main_cst_1 (constant S_ .f32 0x00000000#32),
    binary main_v7 main_cst_1 main_v8 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v8 main_v9 (broadcastInDim S100000x1 ![0] bcast_S100000_S100000x1_0 : (⟨S100000, .f32⟩ : BufTy).Contents (Elt F) → (⟨S100000x1, .f32⟩ : BufTy).Contents (Elt F)),
    unary main_v9 main_v10 (broadcastInDim S100000x64 ![0, 1] bcast_S100000x1_S100000x64_0_1 : (⟨S100000x1, .f32⟩ : BufTy).Contents (Elt F) → (⟨S100000x64, .f32⟩ : BufTy).Contents (Elt F)),
    binary main_v7 main_v10 main_v11 (Host.divf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x3F800000#32),
    unary main_cst_2 main_v12 (broadcastInDim S100000 ![] bcast_S_S100000 : (⟨S_, .f32⟩ : BufTy).Contents (Elt F) → (⟨S100000, .f32⟩ : BufTy).Contents (Elt F)),
    nullary main_cst_3 (constant S_ .f32 0x00000000#32),
    unary main_cst_3 main_v13 (broadcastInDim S64 ![] bcast_S_S64 : (⟨S_, .f32⟩ : BufTy).Contents (Elt F) → (⟨S64, .f32⟩ : BufTy).Contents (Elt F)),
    unary main_v0 main_v14 (broadcastInDim S100000x1 ![0] bcast_S100000_S100000x1_0 : (⟨S100000, .i32⟩ : BufTy).Contents (Elt F) → (⟨S100000x1, .i32⟩ : BufTy).Contents (Elt F)),
    ternary main_v13 main_v14 main_v12 main_v15 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_4 (constant S_ .f32 0x00000000#32),
    unary main_cst_4 main_v16 (broadcastInDim S64x128 ![] bcast_S_S64x128 : (⟨S_, .f32⟩ : BufTy).Contents (Elt F) → (⟨S64x128, .f32⟩ : BufTy).Contents (Elt F)),
    unary main_v0 main_v17 (broadcastInDim S100000x1 ![0] bcast_S100000_S100000x1_0 : (⟨S100000, .i32⟩ : BufTy).Contents (Elt F) → (⟨S100000x1, .i32⟩ : BufTy).Contents (Elt F)),
    ternary main_v16 main_v17 main_arg1 main_v18 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_5 (constant S_ .f32 0x3F800000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S64, .f32⟩) main_call1_v1) (broadcastInDim S64 ![] bcast_S_S64),
    TRef.binary (TRef.of (T := ⟨S64, .f32⟩) main_call1_v1) (TRef.of (T := ⟨S64, .f32⟩) main_v15) (TRef.of (T := ⟨S64, .f32⟩) main_v19) maximumf,
    unary main_v19 main_v20 (broadcastInDim S64x1 ![0] bcast_S64_S64x1_0 : (⟨S64, .f32⟩ : BufTy).Contents (Elt F) → (⟨S64x1, .f32⟩ : BufTy).Contents (Elt F)),
    unary main_v20 main_v21 (broadcastInDim S64x128 ![0, 1] bcast_S64x1_S64x128_0_1 : (⟨S64x1, .f32⟩ : BufTy).Contents (Elt F) → (⟨S64x128, .f32⟩ : BufTy).Contents (Elt F)),
    binary main_v18 main_v21 main_v22 (Host.divf : (⟨S64x128, .f32⟩ : BufTy).Contents (Elt F) → (⟨S64x128, .f32⟩ : BufTy).Contents (Elt F) → (⟨S64x128, .f32⟩ : BufTy).Contents (Elt F)),
    nullary main_cst_6 (constant S_ .f32 0x00000000#32),
    unary main_cst_6 main_v23 (broadcastInDim S64 ![] bcast_S_S64 : (⟨S_, .f32⟩ : BufTy).Contents (Elt F) → (⟨S64, .f32⟩ : BufTy).Contents (Elt F)),
    binary main_v15 main_v23 main_v24 (cmpf .oeq : (⟨S64, .f32⟩ : BufTy).Contents (Elt F) → (⟨S64, .f32⟩ : BufTy).Contents (Elt F) → (⟨S64, .i1⟩ : BufTy).Contents (Elt F)),
    unary main_v24 main_v25 (broadcastInDim S64x1 ![0] bcast_S64_S64x1_0 : (⟨S64, .i1⟩ : BufTy).Contents (Elt F) → (⟨S64x1, .i1⟩ : BufTy).Contents (Elt F)),
    nullary main_cst_7 (constant S_ .f32 0x00000000#32),
    binary main_arg1 main_cst_7 main_v26 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_8 (constant S_ .f32 0x47C35000#32),
    unary main_cst_8 main_v27 (broadcastInDim S128 ![] bcast_S_S128 : (⟨S_, .f32⟩ : BufTy).Contents (Elt F) → (⟨S128, .f32⟩ : BufTy).Contents (Elt F)),
    binary main_v26 main_v27 main_v28 (Host.divf : (⟨S128, .f32⟩ : BufTy).Contents (Elt F) → (⟨S128, .f32⟩ : BufTy).Contents (Elt F) → (⟨S128, .f32⟩ : BufTy).Contents (Elt F)),
    unary main_v28 main_v29 (broadcastInDim S1x128 ![1] bcast_S128_S1x128_1 : (⟨S128, .f32⟩ : BufTy).Contents (Elt F) → (⟨S1x128, .f32⟩ : BufTy).Contents (Elt F)),
    TRef.unary (TRef.of (T := ⟨S64x1, .i1⟩) main_v25) (TRef.of (T := ⟨S64x128, .i1⟩) main_call2_v0) (broadcastInDim S64x128 ![0, 1] bcast_S64x1_S64x128_0_1),
    TRef.unary (TRef.of (T := ⟨S1x128, .f32⟩) main_v29) (TRef.of (T := ⟨S64x128, .f32⟩) main_call2_v1) (broadcastInDim S64x128 ![0, 1] bcast_S1x128_S64x128_0_1),
    TRef.ternary (TRef.of (T := ⟨S64x128, .i1⟩) main_call2_v0) (TRef.of (T := ⟨S64x128, .f32⟩) main_call2_v1) (TRef.of (T := ⟨S64x128, .f32⟩) main_v22) (TRef.of (T := ⟨S64x128, .f32⟩) main_v30) select,
    binary main_v11 main_v30 main_v31 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg4 main_v32 ((transpose S128x128 [1, 0] · transposes_S128x128_S128x128_1_0) : (⟨S128x128, .f32⟩ : BufTy).Contents (Elt F) → (⟨S128x128, .f32⟩ : BufTy).Contents (Elt F)),
    binary main_v31 main_v32 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_9 (constant S_ .f32 0x3089705F#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S100000x64, .f32⟩) main_call3_v1) (broadcastInDim S100000x64 ![] bcast_S_S100000x64),
    TRef.binary (TRef.of (T := ⟨S100000x64, .f32⟩) main_call3_v1) (TRef.of (T := ⟨S100000x64, .f32⟩) main_v11) (TRef.of (T := ⟨S100000x64, .f32⟩) main_v34) maximumf,
    unary main_v34 main_v35 (Host.log : (⟨S100000x64, .f32⟩ : BufTy).Contents (Elt F) → (⟨S100000x64, .f32⟩ : BufTy).Contents (Elt F)),
    binary main_v11 main_v35 main_v36 (mulf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x00000000#32),
    binary main_v36 main_cst_10 main_v37 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v37 main_v38 (Host.negf : (⟨S100000, .f32⟩ : BufTy).Contents (Elt F) → (⟨S100000, .f32⟩ : BufTy).Contents (Elt F)),
    nullary main_cst_11 (constant S_ .f32 0x42800000#32),
    unary main_cst_11 main_v39 (Host.log : (⟨S_, .f32⟩ : BufTy).Contents (Elt F) → (⟨S_, .f32⟩ : BufTy).Contents (Elt F)),
    unary main_v39 main_v40 (broadcastInDim S100000 ![] bcast_S_S100000 : (⟨S_, .f32⟩ : BufTy).Contents (Elt F) → (⟨S100000, .f32⟩ : BufTy).Contents (Elt F)),
    binary main_v38 main_v40 main_v41 (Host.divf : (⟨S100000, .f32⟩ : BufTy).Contents (Elt F) → (⟨S100000, .f32⟩ : BufTy).Contents (Elt F) → (⟨S100000, .f32⟩ : BufTy).Contents (Elt F)),
    nullary main_cst_12 (constant S_ .f32 0x3F800000#32),
    unary main_cst_12 main_v42 (broadcastInDim S100000 ![] bcast_S_S100000 : (⟨S_, .f32⟩ : BufTy).Contents (Elt F) → (⟨S100000, .f32⟩ : BufTy).Contents (Elt F)),
    binary main_v42 main_v41 main_v43 (subf : (⟨S100000, .f32⟩ : BufTy).Contents (Elt F) → (⟨S100000, .f32⟩ : BufTy).Contents (Elt F) → (⟨S100000, .f32⟩ : BufTy).Contents (Elt F)),
    nullary main_cst_13 (constant S_ .f32 0x3F800000#32),
    unary main_cst_13 main_v44 (broadcastInDim S100000 ![] bcast_S_S100000 : (⟨S_, .f32⟩ : BufTy).Contents (Elt F) → (⟨S100000, .f32⟩ : BufTy).Contents (Elt F)),
    binary main_v44 main_v43 main_v45 (subf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v47 main_v33 main_v48 (mulf : (⟨S100000x128, .f32⟩ : BufTy).Contents (Elt F) → (⟨S100000x128, .f32⟩ : BufTy).Contents (Elt F) → (⟨S100000x128, .f32⟩ : BufTy).Contents (Elt F)),
    binary main_arg0 main_v48 main_v49 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- @main is that line. -/
theorem main_line (c : Dev nD) : main (F := F) c = seq hostLine := rfl
theorem no_scoped_refs : (Finset.univ.filter fun b : Ref sig .tc => b.isScoped) = ∅ := by decide
theorem no_scoped_sems : (Finset.univ.filter fun sm : SemLoc sig => sm.isScoped .tc) = ∅ := by decide
set_option maxRecDepth 8192 in
/-- Every operation works on the core's own buffers. -/
theorem line_sub : (hostLine : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., unary_bufs_sub .., unary_bufs_sub .., ternary_bufs_sub .., binary_bufs_sub .., unary_bufs_sub .., binary_bufs_sub .., nullary_bufs_sub .., unary_bufs_sub .., unary_bufs_sub .., binary_bufs_sub .., unary_bufs_sub .., binary_bufs_sub .., nullary_bufs_sub .., binary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub ..⟩

/-! ## The stages -/

/-- Each row's bucket: the place of its greatest key logit. -/
def bucket (lk : FVec F S100000x64 .f32) : IVec S100000 32 :=
  fun j => (Host.argReduce reducer_argmax_f32_i32 lk (iotaInDim S100000x64 32 1) (constant S_ .f32 0xFF800000#32) (constantI S_ 32 0#32) reducesTo_S100000x64_S100000_d1 h_S_ j).2
/-- The exponentials of a row's query logits less their greatest. -/
def expo (q : FVec F S100000x64 .f32) : FVec F S100000x64 .f32 :=
  Host.exp (subf q (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf q (constant S_ .f32 0xFF800000#32) reducesTo_S100000x64_S100000_d1 h_S_)))))
/-- The softmax of a row's query logits. -/
def probs (q : FVec F S100000x64 .f32) : FVec F S100000x64 .f32 :=
  Host.divf (expo q) (broadcastInDim S100000x64 ![0, 1] bcast_S100000x1_S100000x64_0_1 (broadcastInDim S100000x1 ![0] bcast_S100000_S100000x1_0 (Host.reduceAdd (expo q) (constant S_ .f32 0x00000000#32) reducesTo_S100000x64_S100000_d1 h_S_)))
/-- How many rows fall in each bucket. -/
def tally (lk : FVec F S100000x64 .f32) : FVec F S64 .f32 :=
  Host.scatterAdd scatter_S64_S100000x1_S100000_n_0_0_1 (broadcastInDim S64 ![] bcast_S_S64 (constant S_ .f32 0x00000000#32)) (broadcastInDim S100000x1 ![0] bcast_S100000_S100000x1_0 (bucket lk)) (broadcastInDim S100000 ![] bcast_S_S100000 (constant S_ .f32 0x3F800000#32))
/-- The sum of the value rows that fall in each bucket. -/
def segment (lk : FVec F S100000x64 .f32) (V : FVec F S100000x128 .f32) : FVec F S64x128 .f32 :=
  Host.scatterAdd scatter_S64x128_S100000x1_S100000x128_1_0_0_1 (broadcastInDim S64x128 ![] bcast_S_S64x128 (constant S_ .f32 0x00000000#32)) (broadcastInDim S100000x1 ![0] bcast_S100000_S100000x1_0 (bucket lk)) V
/-- Each bucket's mean value row. -/
def means (lk : FVec F S100000x64 .f32) (V : FVec F S100000x128 .f32) : FVec F S64x128 .f32 :=
  Host.divf (segment lk V) (broadcastInDim S64x128 ![0, 1] bcast_S64x1_S64x128_0_1 (broadcastInDim S64x1 ![0] bcast_S64_S64x1_0 (maximumf (broadcastInDim S64 ![] bcast_S_S64 (constant S_ .f32 0x3F800000#32)) (tally lk))))
/-- The mean of all the value rows. -/
def grand (V : FVec F S100000x128 .f32) : FVec F S128 .f32 :=
  Host.divf (Host.reduceAdd V (constant S_ .f32 0x00000000#32) reducesTo_S100000x128_S128_d0 h_S_) (broadcastInDim S128 ![] bcast_S_S128 (constant S_ .f32 0x47C35000#32))
/-- The prototypes: a bucket's mean, or the grand mean where the bucket is empty. -/
def proto (lk : FVec F S100000x64 .f32) (V : FVec F S100000x128 .f32) : FVec F S64x128 .f32 :=
  select (broadcastInDim S64x128 ![0, 1] bcast_S64x1_S64x128_0_1 (broadcastInDim S64x1 ![0] bcast_S64_S64x1_0 (cmpf .oeq (tally lk) (broadcastInDim S64 ![] bcast_S_S64 (constant S_ .f32 0x00000000#32))))) (broadcastInDim S64x128 ![0, 1] bcast_S1x128_S64x128_0_1 (broadcastInDim S1x128 ![1] bcast_S128_S1x128_1 (grand V))) (means lk V)
/-- The recovered rows: the softmax weights of the prototypes, projected. -/
def recovered (V : FVec F S100000x128 .f32) (q lk : FVec F S100000x64 .f32) (W : FVec F S128x128 .f32) : FVec F S100000x128 .f32 :=
  Host.dotGeneral dot_S100000x128_S128x128_S100000x128_1_0_0_1_n_n none (Host.dotGeneral dot_S100000x64_S64x128_S100000x128_1_0_0_1_n_n none (probs q) (proto lk V)) (transpose S128x128 [1, 0] W transposes_S128x128_S128x128_1_0)
/-- The clipped softmax. -/
def clipped (q : FVec F S100000x64 .f32) : FVec F S100000x64 .f32 :=
  maximumf (broadcastInDim S100000x64 ![] bcast_S_S100000x64 (constant S_ .f32 0x3089705F#32)) (probs q)
/-- A row's entropy over the logarithm of 64. -/
def spread (q : FVec F S100000x64 .f32) : FVec F S100000 .f32 :=
  Host.divf (Host.negf (Host.reduceAdd (mulf (probs q) (Host.log (clipped q))) (constant S_ .f32 0x00000000#32) reducesTo_S100000x64_S100000_d1 h_S_)) (broadcastInDim S100000 ![] bcast_S_S100000 (Host.log (constant S_ .f32 0x42800000#32)))
/-- The second result: the confidence. -/
def confidence (q : FVec F S100000x64 .f32) : FVec F S100000 .f32 :=
  subf (broadcastInDim S100000 ![] bcast_S_S100000 (constant S_ .f32 0x3F800000#32)) (spread q)
/-- The first result: the features with the recovered rows added, the more the less confident the row. -/
def output (h V : FVec F S100000x128 .f32) (q lk : FVec F S100000x64 .f32) (W : FVec F S128x128 .f32) : FVec F S100000x128 .f32 :=
  addf h (mulf (broadcastInDim S100000x128 ![0, 1] bcast_S100000x1_S100000x128_0_1 (broadcastInDim S100000x1 ![0] bcast_S100000_S100000x1_0 (subf (broadcastInDim S100000 ![] bcast_S_S100000 (constant S_ .f32 0x3F800000#32)) (confidence q)))) (recovered V q lk W))

set_option maxRecDepth 8192 in
set_option maxHeartbeats 30000000 in
/-- Every execution of the reference ends, with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v49) = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = confidence (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v49).trans (by simp only [hostLine, TRef.binary, TRef.nullary, TRef.quaternary, TRef.ternary, TRef.unary, TRef.toBuf, TRef.ofBuf, cast_eq]; after_results_simp <;> rfl),
      (h c main_v43).trans (by simp only [hostLine, TRef.binary, TRef.nullary, TRef.quaternary, TRef.ternary, TRef.unary, TRef.toBuf, TRef.ofBuf, cast_eq]; after_results_simp <;> rfl),
      (h c main_arg0).trans (by simp only [hostLine, TRef.binary, TRef.nullary, TRef.quaternary, TRef.ternary, TRef.unary, TRef.toBuf, TRef.ofBuf, cast_eq]; after_results_simp <;> rfl),
      (h c main_arg1).trans (by simp only [hostLine, TRef.binary, TRef.nullary, TRef.quaternary, TRef.ternary, TRef.unary, TRef.toBuf, TRef.ofBuf, cast_eq]; after_results_simp <;> rfl),
      (h c main_arg2).trans (by simp only [hostLine, TRef.binary, TRef.nullary, TRef.quaternary, TRef.ternary, TRef.unary, TRef.toBuf, TRef.ofBuf, cast_eq]; after_results_simp <;> rfl),
      (h c main_arg3).trans (by simp only [hostLine, TRef.binary, TRef.nullary, TRef.quaternary, TRef.ternary, TRef.unary, TRef.toBuf, TRef.ofBuf, cast_eq]; after_results_simp <;> rfl),
      (h c main_arg4).trans (by simp only [hostLine, TRef.binary, TRef.nullary, TRef.quaternary, TRef.ternary, TRef.unary, TRef.toBuf, TRef.ofBuf, cast_eq]; after_results_simp <;> rfl)⟩)
    (run_seq no_scoped_refs no_scoped_sems defs main (fun _ => hostLine) main_line (fun _ => line_sub) m ρ)

end Cert.Refine.Ref

end
-- ==== Proof.Value.Spec.lean ====
module

public import Idealize.ShloMosaic.PureOps.Ideal.Laws
public import Idealize.ShloMosaic.Lib.Pointwise

/-! The bucket of a row of 64 logits: the first place of its greatest entry, said once and met in both programs' words. -/

@[expose] public section

set_option maxRecDepth 16384

noncomputable section
namespace Cert.Refine.Spec

open Idealize.ShloMosaic

variable {M : ℕ}

/-- A row of a table. -/
abbrev row {N M : ℕ} (x : FVec Ideal ⟨2, ![N, M]⟩ .f32) (r : Fin N) : Fin M → EReal := fun k => x (ix2 r k)

/-- A row's greatest entry. -/
def peak (r : Fin M → EReal) : EReal := Finset.univ.fold max ⊥ r

theorem le_peak (r : Fin M → EReal) (k : Fin M) : r k ≤ peak r :=
  Finset.le_fold_max (r k) |>.2 (.inr ⟨k, Finset.mem_univ k, le_rfl⟩)

theorem peak_le {r : Fin M → EReal} {c : EReal} (h : ∀ k, r k ≤ c) : peak r ≤ c :=
  Finset.fold_max_le c |>.2 ⟨bot_le, fun k _ => h k⟩

/-- A row's bucket is `b`: the entry at `b` is the greatest and none before it is. -/
def First (r : Fin M → EReal) (b : Fin M) : Prop := r b = peak r ∧ ∀ k, k < b → r k ≠ peak r

theorem First.unique {r : Fin M → EReal} {b c : Fin M} (hb : First r b) (hc : First r c) : b = c := by
  rcases lt_trichotomy b c with h | h | h
  · exact absurd hb.1 (hc.2 b h)
  · exact h
  · exact absurd hc.1 (hb.2 c h)

/-- Of the entries of a row the greatest is one. -/
theorem exists_eq_peak [NeZero M] (r : Fin M → EReal) : ∃ b, r b = peak r := by
  obtain ⟨b, -, hb⟩ := Finset.exists_max_image Finset.univ r ⟨(0 : Fin M), Finset.mem_univ _⟩
  exact ⟨b, le_antisymm (le_peak r b) (peak_le fun k => hb k (Finset.mem_univ k))⟩

/-- Every row has a bucket. -/
theorem exists_first [NeZero M] (r : Fin M → EReal) : ∃ b, First r b := by
  classical
  obtain ⟨b0, hb0⟩ := exists_eq_peak r
  obtain ⟨b, hb, hmin⟩ := Finset.exists_min_image (Finset.univ.filter fun b => r b = peak r) id
    ⟨b0, Finset.mem_filter.2 ⟨Finset.mem_univ _, hb0⟩⟩
  refine ⟨b, (Finset.mem_filter.1 hb).2, fun k hk e => ?_⟩
  exact absurd (hmin k (Finset.mem_filter.2 ⟨Finset.mem_univ _, e⟩)) (not_le.2 hk)

/-- A small number's word, read signed, is the number. -/
theorem toInt_small {n : ℕ} (h : n < 65) : (BitVec.ofNat 32 n).toInt = n := by
  rw [BitVec.toInt_ofNat']
  norm_num [Int.bmod]
  omega

theorem minsi_toInt (x y : BitVec 32) : (IntOp.minsi x y).toInt = min x.toInt y.toInt := by
  unfold IntOp.minsi
  split
  · next h => rw [BitVec.slt_iff_toInt_lt] at h; omega
  · next h => rw [BitVec.slt_iff_toInt_lt] at h; omega

/-- The least place of a row's greatest entry, as the kernel finds it, is the row's bucket. -/
theorem fold_minsi {r : Fin 64 → EReal} {b : Fin 64} (hb : First r b) :
    Finset.univ.fold IntOp.minsi 2147483647#32 (fun x : Fin 64 => if r x = peak r then BitVec.ofNat 32 x.val else 64#32) = BitVec.ofNat 32 b.val := by
  have small : ∀ x : Fin 64, (BitVec.ofNat 32 x.val).toInt = x.val := fun x => toInt_small (by omega)
  apply BitVec.eq_of_toInt_eq
  rw [← Finset.fold_hom (op' := (min : ℤ → ℤ → ℤ)) (m := BitVec.toInt) minsi_toInt, small b]
  apply le_antisymm
  · rw [Finset.fold_min_le]
    exact .inr ⟨b, Finset.mem_univ _, by rw [if_pos hb.1, small b]⟩
  · rw [Finset.le_fold_min]
    refine ⟨by have e : (2147483647#32).toInt = 2147483647 := by decide
               rw [e]; omega, fun x _ => ?_⟩
    by_cases h : r x = peak r
    · rw [if_pos h, small x]
      have : ¬ x < b := fun hx => hb.2 x hx h
      omega
    · rw [if_neg h]
      have e : (64#32).toInt = 64 := by decide
      rw [e]; omega

open scoped Classical in
/-- A row's mark in column `b`: one when its bucket is `b`, zero otherwise. -/
def mark (r : Fin M → EReal) (b : Fin M) : EReal := if First r b then 1 else 0

open scoped Classical in
theorem mark_eq (r : Fin 64 → EReal) (b : Fin 64) :
    Scalar.select (IntOp.cmpi .eq (BitVec.ofNat 32 b.val)
      (Finset.univ.fold IntOp.minsi 2147483647#32 (fun x : Fin 64 => if r x = peak r then BitVec.ofNat 32 x.val else 64#32))) (1 : EReal) 0 = mark r b := by
  obtain ⟨c, hc⟩ := exists_first r
  rw [fold_minsi hc]
  unfold mark
  by_cases h : First r b
  · rw [if_pos h, h.unique hc]
    simp [Scalar.select, IntOp.cmpi]
  · rw [if_neg h]
    have hne : b ≠ c := fun e => h (e ▸ hc)
    have : BitVec.ofNat 32 b.val ≠ BitVec.ofNat 32 c.val := fun e => hne (Fin.ext (by
      have := congrArg BitVec.toInt e
      rw [toInt_small (n := b.val) (by omega), toInt_small (n := c.val) (by omega)] at this
      omega))
    have hf : (BitVec.ofNat 32 b.val == BitVec.ofNat 32 c.val) = false := beq_eq_false_iff_ne.2 this
    simp only [Scalar.select, IntOp.cmpi, hf]
    exact if_neg (by decide)

end Cert.Refine.Spec

end
-- ==== Proof.Value.Payload.lean ====
module

public import proofs.«01_k».proof.Proof.Value.Spec
public import proofs.«01_k».proof.Proof.Run.Chunks

/-! What the kernel computes on two thousand rows, read at an index. -/

@[expose] public section

set_option maxRecDepth 16384

noncomputable section
namespace Cert.Refine.Payload

open Idealize.ShloMosaic Cert.KernelIdeal Cert.KernelIdeal.Gen Cert.Refine.Spec

theorem bits_bot : Ideal.ofBits .f32 0xFF800000#32 = (⊥ : EReal) := by
  simp [Ideal.ofBits, Ideal.ieee]

theorem inv_n : Named.named (F := Ideal) (φ := .f32) κ "inv_n" 925353388#32 = ((1 / 100000 : ℝ) : EReal) := rfl
theorem inv_log_b : Named.named (F := Ideal) (φ := .f32) κ "inv_log_b" 1047935055#32 = (((Real.log 64)⁻¹ : ℝ) : EReal) := rfl

variable (v : FVec Ideal S2000x64 .f32)

/-- A row's weights before division, their sum, and the sum of each times its logarithm. -/
def weight {M : ℕ} (r : Fin M → EReal) (b : Fin M) : EReal := Ideal.exp (r b - peak r)
def total {M : ℕ} (r : Fin M → EReal) : EReal := ∑ x, weight r x
def moment {M : ℕ} (r : Fin M → EReal) : EReal := ∑ x, weight r x * (r x - peak r)
/-- A row's gate as the kernel forms it. -/
def gate {M : ℕ} (r : Fin M → EReal) : EReal :=
  (Ideal.log (total r) - moment r * Ideal.div 1 (total r)) * (((Real.log 64)⁻¹ : ℝ) : EReal)

theorem fold_peak (r : Fin 2000) :
    Finset.fold max (Ideal.ofBits .f32 0xFF800000#32) (fun x => (v (ix2 r x) : EReal)) Finset.univ = peak (row v r) := by
  rw [bits_bot]; rfl

/-- The marks of a chunk of rows. -/
theorem marks (r : Fin 2000) (b : Fin 64) : k0_pay7 (F := Ideal) v (ix2 r b) = mark (row v r) b := by
  have h : k0_pay7 (F := Ideal) v (ix2 r b)
      = Scalar.select (IntOp.cmpi .eq (BitVec.ofNat 32 b.val) (Finset.fold IntOp.minsi 2147483647#32 (fun x : Fin 64 => if (v (ix2 r x) : EReal) = Finset.fold max (Ideal.ofBits .f32 0xFF800000#32) (fun x => (v (ix2 r x) : EReal)) Finset.univ then BitVec.ofNat 32 x.val else 64#32) Finset.univ)) (1 : EReal) 0 := by
    pointwise [k0_pay7]
  rw [h, fold_peak]
  exact mark_eq (row v r) b

/-- A chunk's value rows added to the bucket sums. -/
theorem sums (w : FVec Ideal S2000x128 .f32) (a : FVec Ideal S64x128 .f32) (b : Fin 64) (d : Fin 128) :
    k0_pay8 (F := Ideal) v w a (ix2 b d) = (a (ix2 b d) : EReal) + ∑ x : Fin 2000, mark (row v x) b * (w (ix2 x d) : EReal) := by
  have h : k0_pay8 (F := Ideal) v w a (ix2 b d) = (a (ix2 b d) : EReal) + ∑ x : Fin 2000, (k0_pay7 (F := Ideal) v (ix2 x b) : EReal) * (w (ix2 x d) : EReal) := by
    pointwise [k0_pay8]
  rw [h]
  exact congrArg _ (Finset.sum_congr rfl fun x _ => by rw [marks])

/-- A chunk's rows counted. -/
theorem counts (n : FVec Ideal S8x64 .f32) (r : Fin 8) (b : Fin 64) :
    k0_pay9 (F := Ideal) v n (ix2 r b) = (n (ix2 r b) : EReal) + ∑ x : Fin 2000, mark (row v x) b := by
  have h : k0_pay9 (F := Ideal) v n (ix2 r b) = (n (ix2 r b) : EReal) + ∑ x : Fin 2000, (k0_pay7 (F := Ideal) v (ix2 x b) : EReal) := by
    pointwise [k0_pay9]
  rw [h]
  exact congrArg _ (Finset.sum_congr rfl fun x _ => by rw [marks])

/-- The empty sums and counts. -/
theorem sums_zero (b : Fin 64) (d : Fin 128) : k0_pay1 (F := Ideal) (ix2 b d) = (0 : EReal) := by
  pointwise [k0_pay1]
theorem counts_zero (r : Fin 8) (b : Fin 64) : k0_pay2 (F := Ideal) (ix2 r b) = (0 : EReal) := by
  pointwise [k0_pay2]

/-- The projected prototypes. -/
theorem projected (n : FVec Ideal S1x64 .f32) (a : FVec Ideal S64x128 .f32) (w : FVec Ideal S128x128 .f32) (b : Fin 64) (d : Fin 128) :
    k0_pay5 (F := Ideal) n a w (ix2 b d)
      = ∑ x : Fin 128, (if (n (ix2 0 b) : EReal) = 0 then (∑ k : Fin 64, (a (ix2 k x) : EReal)) * ((1 / 100000 : ℝ) : EReal)
          else Ideal.div (a (ix2 b x)) (max 1 (n (ix2 0 b)))) * (w (ix2 d x) : EReal) := by
  rw [← inv_n]
  pointwise [k0_pay5]

/-- The gate of a row. -/
theorem gates (r : Fin 2000) (b : Fin 1) : k0_pay31 (F := Ideal) v (ix2 r b) = gate (row v r) := by
  unfold gate total moment weight
  rw [← inv_log_b, ← fold_peak]
  pointwise [k0_pay31, k0_pay30, k0_pay29, k0_pay28, k0_pay27]

/-- The first output's rows. -/
theorem outs (p : FVec Ideal S64x128 .f32) (h : FVec Ideal S2000x128 .f32) (r : Fin 2000) (d : Fin 128) :
    k0_pay32 (F := Ideal) v p h (ix2 r d)
      = (h (ix2 r d) : EReal) + gate (row v r) * ∑ x : Fin 64, weight (row v r) x * Ideal.div 1 (total (row v r)) * (p (ix2 x d) : EReal) := by
  rw [← gates v r 0]
  unfold total weight
  rw [← fold_peak]
  pointwise [k0_pay32, k0_pay30, k0_pay29, k0_pay28, k0_pay27]

/-- The second output's rows. -/
theorem confs (r : Fin 2000) (b : Fin 1) : k0_pay33 (F := Ideal) v (ix2 r b) = 1 - gate (row v r) := by
  rw [← gates v r b]
  pointwise [k0_pay33]

end Cert.Refine.Payload

end
-- ==== Proof.Value.Blocks.lean ====
module

public import proofs.«01_k».proof.Proof.Value.Payload
public import Idealize.ShloMosaic.Lib.Pipeline.ValueKit

/-! What the kernel computes on a block of ten thousand rows, read at an index. -/

@[expose] public section

set_option maxRecDepth 16384

noncomputable section

namespace Cert.Refine.Blocks

open Idealize.ShloMosaic Cert.KernelIdeal Cert.KernelIdeal.Gen Cert.Refine.Spec Cert.Refine.Payload

/-- A run of two thousand rows read at an index. -/
theorem rows64_apply (o : ℕ) (h) (x : FVec Ideal S10000x64 .f32) (r : Fin 2000) (k : Fin 64) (hr : o + r.val < 10000) :
    rows64 (F := Ideal) o h x (ix2 r k) = x (ix2 (⟨o + r.val, hr⟩ : Fin 10000) k) := by
  unfold rows64
  refine congrArg x (funext fun a => Fin.ext ?_)
  fin_cases a <;> simp [LoadRect.idx_apply, ix2]
theorem rows128_apply (o : ℕ) (h) (x : FVec Ideal S10000x128 .f32) (r : Fin 2000) (k : Fin 128) (hr : o + r.val < 10000) :
    rows128 (F := Ideal) o h x (ix2 r k) = x (ix2 (⟨o + r.val, hr⟩ : Fin 10000) k) := by
  unfold rows128
  refine congrArg x (funext fun a => Fin.ext ?_)
  fin_cases a <;> simp [LoadRect.idx_apply, ix2]
theorem rows64_row (o : ℕ) (h) (x : FVec Ideal S10000x64 .f32) (r : Fin 2000) (hr : o + r.val < 10000) :
    row (rows64 (F := Ideal) o h x) r = row x (⟨o + r.val, hr⟩ : Fin 10000) :=
  funext fun k => rows64_apply o h x r k hr

/-- A sum over a block's rows, run by run. -/
theorem five_runs (f : Fin 10000 → EReal) : ∑ n, f n
    = (∑ x : Fin 2000, f ⟨0 + x.val, by omega⟩) + (∑ x : Fin 2000, f ⟨2000 + x.val, by omega⟩) + (∑ x : Fin 2000, f ⟨4000 + x.val, by omega⟩)
      + (∑ x : Fin 2000, f ⟨6000 + x.val, by omega⟩) + (∑ x : Fin 2000, f ⟨8000 + x.val, by omega⟩) := by
  rw [Fin.sum_univ_tiles 5 2000 rfl f, Fin.sum_univ_five]
  rfl

/-- The bucket sums after a block: each marked row's value row is added. -/
theorem accStep_apply (x0 : FVec Ideal S10000x64 .f32) (x1 : FVec Ideal S10000x128 .f32) (a : FVec Ideal S64x128 .f32) (b : Fin 64) (d : Fin 128) :
    accStep (F := Ideal) x0 x1 a (ix2 b d) = (a (ix2 b d) : EReal) + ∑ n : Fin 10000, mark (row x0 n) b * (x1 (ix2 n d) : EReal) := by
  unfold accStep
  rw [sums, sums, sums, sums, sums, five_runs]
  simp only [add_assoc]
  refine congrArg _ (congrArg₂ _ ?_ (congrArg₂ _ ?_ (congrArg₂ _ ?_ (congrArg₂ _ ?_ ?_))))
  all_goals exact Finset.sum_congr rfl fun x _ => by rw [rows64_row _ _ _ _ (by omega), rows128_apply _ _ _ _ _ (by omega)]

/-- The bucket counts after a block. -/
theorem cntStep_apply (x0 : FVec Ideal S10000x64 .f32) (n : FVec Ideal S8x64 .f32) (r : Fin 8) (b : Fin 64) :
    cntStep (F := Ideal) x0 n (ix2 r b) = (n (ix2 r b) : EReal) + ∑ k : Fin 10000, mark (row x0 k) b := by
  unfold cntStep
  rw [counts, counts, counts, counts, counts, five_runs]
  simp only [add_assoc]
  refine congrArg _ (congrArg₂ _ ?_ (congrArg₂ _ ?_ (congrArg₂ _ ?_ (congrArg₂ _ ?_ ?_))))
  all_goals exact Finset.sum_congr rfl fun x _ => by rw [rows64_row _ _ _ _ (by omega)]

/-- The projected prototypes from the bucket sums and counts. -/
theorem protoOf_apply (a : FVec Ideal S64x128 .f32) (n : FVec Ideal S8x64 .f32) (w : FVec Ideal S128x128 .f32) (b : Fin 64) (d : Fin 128) :
    protoOf (F := Ideal) a n w (ix2 b d)
      = ∑ x : Fin 128, (if (n (ix2 (0 : Fin 8) b) : EReal) = 0 then (∑ k : Fin 64, (a (ix2 k x) : EReal)) * ((1 / 100000 : ℝ) : EReal)
          else Ideal.div (a (ix2 b x)) (max 1 (n (ix2 (0 : Fin 8) b)))) * (w (ix2 d x) : EReal) := by
  have h : n ((Rect.unit (s := S8x64) ![0, 0] S1x64.size inb_S8x64_S1x64_0_0).toLoadRect.idx (ix2 (0 : Fin 1) b)) = n (ix2 (0 : Fin 8) b) := by
    refine congrArg n (funext fun a => Fin.ext ?_)
    fin_cases a <;> simp [LoadRect.idx_apply, ix2]
  unfold protoOf
  rw [projected, h]

/-- A recovered row at an index. -/
def recovered (x3 : FVec Ideal S10000x64 .f32) (x4 : FVec Ideal S10000x128 .f32) (p : FVec Ideal S64x128 .f32) (r : Fin 10000) (d : Fin 128) : EReal :=
  (x4 (ix2 r d) : EReal) + gate (row x3 r) * ∑ x : Fin 64, weight (row x3 r) x * Ideal.div 1 (total (row x3 r)) * (p (ix2 x d) : EReal)

/-- A run's placement in the block. -/
theorem emb128 (o : ℕ) (h) (r : Fin 2000) (d : Fin 128) (hr : o + r.val < 10000) :
    (Rect.unit (s := S10000x128) ![o, 0] S2000x128.size h).emb (ix2 r d) = ix2 (⟨o + r.val, hr⟩ : Fin 10000) d := by
  refine funext fun a => Fin.ext ?_
  fin_cases a <;> simp [Rect.emb_apply, ix2]
theorem emb1 (o : ℕ) (h) (r : Fin 2000) (d : Fin 1) (hr : o + r.val < 10000) :
    (Rect.unit (s := S10000x1) ![o, 0] S2000x1.size h).emb (ix2 r d) = ix2 (⟨o + r.val, hr⟩ : Fin 10000) d := by
  refine funext fun a => Fin.ext ?_
  fin_cases a <;> simp [Rect.emb_apply, ix2]

/-- One run of recovered rows, placed in the block. -/
theorem out_piece (x3 : FVec Ideal S10000x64 .f32) (x4 : FVec Ideal S10000x128 .f32) (p : FVec Ideal S64x128 .f32) (o : ℕ) (ho : o ≤ 8000) (h) (h') (h'') (y : S2000x128.Idx) :
    k0_pay32 (F := Ideal) (rows64 o h x3) p (rows128 o h' x4) y
      = (fun i : S10000x128.Idx => recovered x3 x4 p (i 0) (i 1)) ((Rect.unit (s := S10000x128) ![o, 0] S2000x128.size h'').emb y) := by
  obtain ⟨r, d, rfl⟩ : ∃ (r : Fin 2000) (d : Fin 128), y = ix2 r d := ⟨y 0, y 1, eq_ix2 y⟩
  have hr : o + r.val < 10000 := by omega
  rw [outs, emb128 o _ r d hr, rows64_row o h x3 r hr, rows128_apply o h' x4 r d hr]
  rfl
theorem conf_piece (x3 : FVec Ideal S10000x64 .f32) (o : ℕ) (ho : o ≤ 8000) (h) (h'') (y : S2000x1.Idx) :
    k0_pay33 (F := Ideal) (rows64 o h x3) y
      = (fun i : S10000x1.Idx => 1 - gate (row x3 (i 0))) ((Rect.unit (s := S10000x1) ![o, 0] S2000x1.size h'').emb y) := by
  obtain ⟨r, d, rfl⟩ : ∃ (r : Fin 2000) (d : Fin 1), y = ix2 r d := ⟨y 0, y 1, eq_ix2 y⟩
  have hr : o + r.val < 10000 := by omega
  rw [confs, emb1 o _ r d hr, rows64_row o h x3 r hr]
  rfl

/-- A whole block of recovered rows, and of confidences. -/
def recoveredBlock (x3 : FVec Ideal S10000x64 .f32) (x4 : FVec Ideal S10000x128 .f32) (p : FVec Ideal S64x128 .f32) : FVec Ideal S10000x128 .f32 :=
  fun i => recovered x3 x4 p (i 0) (i 1)
def confidentBlock (x3 : FVec Ideal S10000x64 .f32) : FVec Ideal S10000x1 .f32 := fun i => 1 - gate (row x3 (i 0))

theorem out_pieces (x3 : FVec Ideal S10000x64 .f32) (x4 : FVec Ideal S10000x128 .f32) (p : FVec Ideal S64x128 .f32) :
    ∀ q ∈ outPieces (F := Ideal) x3 x4 p, ∀ x : q.1.shape.Idx, q.2 x = recoveredBlock x3 x4 p (q.1.emb x) := by
  unfold outPieces
  refine List.forall_mem_cons.2 ⟨fun x => out_piece x3 x4 p 8000 (by omega) inb_S10000x64_S2000x64_8000_0 inb_S10000x128_S2000x128_8000_0 inb_S10000x128_S2000x128_8000_0 x, ?_⟩
  refine List.forall_mem_cons.2 ⟨fun x => out_piece x3 x4 p 6000 (by omega) inb_S10000x64_S2000x64_6000_0 inb_S10000x128_S2000x128_6000_0 inb_S10000x128_S2000x128_6000_0 x, ?_⟩
  refine List.forall_mem_cons.2 ⟨fun x => out_piece x3 x4 p 4000 (by omega) inb_S10000x64_S2000x64_4000_0 inb_S10000x128_S2000x128_4000_0 inb_S10000x128_S2000x128_4000_0 x, ?_⟩
  refine List.forall_mem_cons.2 ⟨fun x => out_piece x3 x4 p 2000 (by omega) inb_S10000x64_S2000x64_2000_0 inb_S10000x128_S2000x128_2000_0 inb_S10000x128_S2000x128_2000_0 x, ?_⟩
  refine List.forall_mem_cons.2 ⟨fun x => out_piece x3 x4 p 0 (by omega) inb_S10000x64_S2000x64_0_0 inb_S10000x128_S2000x128_0_0 inb_S10000x128_S2000x128_0_0 x, ?_⟩
  exact fun _ h => absurd h List.not_mem_nil
theorem conf_pieces (x3 : FVec Ideal S10000x64 .f32) :
    ∀ q ∈ confPieces (F := Ideal) x3, ∀ x : q.1.shape.Idx, q.2 x = confidentBlock x3 (q.1.emb x) := by
  unfold confPieces
  refine List.forall_mem_cons.2 ⟨fun x => conf_piece x3 8000 (by omega) inb_S10000x64_S2000x64_8000_0 inb_S10000x1_S2000x1_8000_0 x, ?_⟩
  refine List.forall_mem_cons.2 ⟨fun x => conf_piece x3 6000 (by omega) inb_S10000x64_S2000x64_6000_0 inb_S10000x1_S2000x1_6000_0 x, ?_⟩
  refine List.forall_mem_cons.2 ⟨fun x => conf_piece x3 4000 (by omega) inb_S10000x64_S2000x64_4000_0 inb_S10000x1_S2000x1_4000_0 x, ?_⟩
  refine List.forall_mem_cons.2 ⟨fun x => conf_piece x3 2000 (by omega) inb_S10000x64_S2000x64_2000_0 inb_S10000x1_S2000x1_2000_0 x, ?_⟩
  refine List.forall_mem_cons.2 ⟨fun x => conf_piece x3 0 (by omega) inb_S10000x64_S2000x64_0_0 inb_S10000x1_S2000x1_0_0 x, ?_⟩
  exact fun _ h => absurd h List.not_mem_nil

/-- The first output's block. -/
theorem outBlock_eq (x3 : FVec Ideal S10000x64 .f32) (x4 : FVec Ideal S10000x128 .f32) (p : FVec Ideal S64x128 .f32) :
    outBlock (F := Ideal) x3 x4 p = recoveredBlock x3 x4 p :=
  funext fun y => View.read_writes_apply_of_pieces (Val := Elt Ideal) outV outV.junk (recoveredBlock x3 x4 p) (outPieces (F := Ideal) x3 x4 p) (out_pieces x3 x4 p) y (outPieces_cover (F := Ideal) x3 x4 p y)
/-- The second output's block. -/
theorem confBlock_eq (x3 : FVec Ideal S10000x64 .f32) : confBlock (F := Ideal) x3 = confidentBlock x3 :=
  funext fun y => View.read_writes_apply_of_pieces (Val := Elt Ideal) confV confV.junk (confidentBlock x3) (confPieces (F := Ideal) x3) (conf_pieces x3) y (confPieces_cover (F := Ideal) x3 y)

end Cert.Refine.Blocks

end
-- ==== Proof.Value.Windows.lean ====
module

public import proofs.«01_k».proof.Proof.Value.Spec
public import proofs.«01_k».proof.Proof.Run.Launch
public import Idealize.ShloMosaic.Lib.Pipeline.ValueKit

/-! The block of each input a grid point sees, read at an index of the argument. -/

@[expose] public section

set_option maxRecDepth 16384

noncomputable section

namespace Cert.Refine.Windows

open Idealize.ShloMosaic Idealize.ShloMosaic.TcCoe Cert.KernelIdeal Cert.KernelIdeal.Gen Cert.Refine.Spec

variable (m : (ℓ : Loc nD τ sig) → Buf (Elt Ideal) ℓ)

/-- Every window's block index at every point. -/
theorem idx : ∀ t : Fin cfg0.N, win0_0.index t = ![min t.val 9, 0] ∧ win0_1.index t = ![min t.val 9, 0] ∧ win0_2.index t = ![0, 0]
    ∧ win0_3.index t = ![t.val - 10, 0] ∧ win0_4.index t = ![t.val - 10, 0] ∧ win0_5.index t = ![t.val - 10, 0] ∧ win0_6.index t = ![t.val - 10, 0] :=
  (by decide +kernel : ∀ t : Fin grid0.N, _)

theorem points (t : Fin cfg0.N) : t.val < 20 := t.isLt

/-- A block of the bucket logits the rows are sorted by. -/
theorem keys (c : Dev nD) (t : Fin cfg0.N) (ht : t.val < 10) (n : Fin 10000) (k : Fin 64) :
    iblk m c 0 t (ix2 n k) = m ((c : Thread nD τ).loc main_arg3) (ix2 (⟨t.val * 10000 + n.val, by omega⟩ : Fin 100000) k) := by
  have h := (idx t).1
  have e : min t.val 9 = t.val := by omega
  rw [e] at h
  blk_ext [iblk, V, h]

/-- A block of the value rows. -/
theorem values (c : Dev nD) (t : Fin cfg0.N) (ht : t.val < 10) (n : Fin 10000) (k : Fin 128) :
    iblk m c 1 t (ix2 n k) = m ((c : Thread nD τ).loc main_arg1) (ix2 (⟨t.val * 10000 + n.val, by omega⟩ : Fin 100000) k) := by
  have h := (idx t).2.1
  have e : min t.val 9 = t.val := by omega
  rw [e] at h
  blk_ext [iblk, V, h]

/-- The projection. -/
theorem projection (c : Dev nD) (t : Fin cfg0.N) (n : Fin 128) (k : Fin 128) :
    iblk m c 2 t (ix2 n k) = m ((c : Thread nD τ).loc main_arg4) (ix2 n k) := by
  have h := (idx t).2.2.1
  blk_ext [iblk, V, h]

/-- A block of the bucket logits the rows are recovered by. -/
theorem queries (c : Dev nD) (t : Fin cfg0.N) (ht : 10 ≤ t.val) (n : Fin 10000) (k : Fin 64) :
    iblk m c 3 t (ix2 n k) = m ((c : Thread nD τ).loc main_arg2) (ix2 (⟨(t.val - 10) * 10000 + n.val, by have := points t; omega⟩ : Fin 100000) k) := by
  have h := (idx t).2.2.2.1
  blk_ext [iblk, V, h]

/-- A block of the rows to recover. -/
theorem rows (c : Dev nD) (t : Fin cfg0.N) (ht : 10 ≤ t.val) (n : Fin 10000) (k : Fin 128) :
    iblk m c 4 t (ix2 n k) = m ((c : Thread nD τ).loc main_arg0) (ix2 (⟨(t.val - 10) * 10000 + n.val, by have := points t; omega⟩ : Fin 100000) k) := by
  have h := (idx t).2.2.2.2.1
  blk_ext [iblk, V, h]

end Cert.Refine.Windows

end
-- ==== Proof.Value.Entropy.lean ====
module

public import proofs.«01_k».proof.Proof.Value.Spec

/-! A row's softmax, entropy and gate over the reals. -/

@[expose] public section

set_option maxRecDepth 16384

noncomputable section
namespace Cert.Refine.Entropy

open Idealize.ShloMosaic Cert.Refine.Spec

/-- A sum of reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The greatest of finite entries is one of them, hence finite. -/
theorem peak_real {x : Fin 64 → ℝ} : ∃ M : ℝ, peak (fun k => ((x k : ℝ) : EReal)) = (M : EReal) := by
  obtain ⟨b, hb⟩ := exists_eq_peak (fun k => ((x k : ℝ) : EReal))
  exact ⟨x b, hb.symm⟩

/-- The logarithm of the sum of the exponentials, less their mean exponent, is the entropy of the weights. -/
theorem entropy_real (t : Fin 64 → ℝ) :
    Real.log (∑ k, Real.exp (t k)) - (∑ k, Real.exp (t k) * t k) * (1 / ∑ k, Real.exp (t k))
      = -∑ k, (Real.exp (t k) * (1 / ∑ j, Real.exp (t j))) * Real.log (Real.exp (t k) * (1 / ∑ j, Real.exp (t j))) := by
  have hs : 0 < ∑ k, Real.exp (t k) := Finset.sum_pos (fun k _ => Real.exp_pos _) ⟨0, Finset.mem_univ _⟩
  set s := ∑ k, Real.exp (t k) with hsdef
  have hterm : ∀ k, Real.exp (t k) * (1 / s) * Real.log (Real.exp (t k) * (1 / s))
      = Real.exp (t k) * t k * (1 / s) - Real.exp (t k) * (1 / s) * Real.log s := by
    intro k
    rw [Real.log_mul (Real.exp_pos _).ne' (one_div_pos.2 hs).ne', Real.log_exp, one_div, Real.log_inv]
    ring
  rw [Finset.sum_congr rfl fun k _ => hterm k, Finset.sum_sub_distrib, ← Finset.sum_mul, ← Finset.sum_mul, ← Finset.sum_mul, ← hsdef]
  field_simp
  ring

/-- A row of finite logits: its weights are reals, the two divisions agree, and where no weight is under the clip's bound
the kernel's gate and the reference's entropy over the logarithm of 64 are the same real. -/
theorem gate_real (x : Fin 64 → ℝ) (c : ℝ) (r E P : Fin 64 → EReal) (hr : r = fun k => ((x k : ℝ) : EReal))
    (hE : ∀ k, E k = Ideal.exp (r k - peak r)) (hP : ∀ k, P k = Ideal.div (E k) (∑ j, E j)) (hc : ∀ k, (c : EReal) ≤ P k) :
    ∃ (g : ℝ) (p : Fin 64 → ℝ), (∀ k, P k = (p k : EReal)) ∧ (∀ k, E k * Ideal.div 1 (∑ j, E j) = (p k : EReal))
      ∧ (Ideal.log (∑ j, E j) - (∑ k, E k * (r k - peak r)) * Ideal.div 1 (∑ j, E j)) * (((Real.log 64)⁻¹ : ℝ) : EReal) = (g : EReal)
      ∧ Ideal.div (-∑ k, P k * Ideal.log (max (c : EReal) (P k))) (Ideal.log ((64 : ℝ) : EReal)) = (g : EReal) := by
  obtain ⟨M, hM⟩ := peak_real (x := x)
  rw [← hr] at hM
  have ht : ∀ k, r k - peak r = ((x k - M : ℝ) : EReal) := fun k => by rw [hM, hr, EReal.coe_sub]
  have hEr : ∀ k, E k = ((Real.exp (x k - M) : ℝ) : EReal) := fun k => by rw [hE, ht, Ideal.exp_coe]
  have hS : ∑ j, E j = ((∑ j, Real.exp (x j - M) : ℝ) : EReal) := by
    rw [← coe_sum]; exact Finset.sum_congr rfl fun j _ => hEr j
  have hs : 0 < ∑ k, Real.exp (x k - M) := Finset.sum_pos (fun k _ => Real.exp_pos _) ⟨0, Finset.mem_univ _⟩
  have hPr : ∀ k, P k = ((Real.exp (x k - M) * (1 / ∑ j, Real.exp (x j - M)) : ℝ) : EReal) := fun k => by
    rw [hP, hS, hEr, Ideal.div_coe hs.ne', EReal.coe_mul]
  have hinv : Ideal.div 1 (∑ j, E j) = ((1 / ∑ j, Real.exp (x j - M) : ℝ) : EReal) := by
    rw [hS, Ideal.div_coe hs.ne', one_mul]
  have h64 : Real.log 64 ≠ 0 := (Real.log_pos (by norm_num)).ne'
  refine ⟨(-∑ k, (Real.exp (x k - M) * (1 / ∑ j, Real.exp (x j - M))) * Real.log (Real.exp (x k - M) * (1 / ∑ j, Real.exp (x j - M)))) * (Real.log 64)⁻¹,
    fun k => Real.exp (x k - M) * (1 / ∑ j, Real.exp (x j - M)), hPr, fun k => ?_, ?_, ?_⟩
  · rw [hinv, hEr, EReal.coe_mul]
  · rw [hinv, ← entropy_real (fun k => x k - M), EReal.coe_mul, EReal.coe_sub, EReal.coe_mul, ← coe_sum]
    congr 2
    · rw [hS, Ideal.log_coe, if_neg (not_le.2 hs)]
    · congr 1
      exact Finset.sum_congr rfl fun k _ => by rw [hEr, ht, EReal.coe_mul]
  · have hl : ∀ k, P k * Ideal.log (max (c : EReal) (P k))
        = (((Real.exp (x k - M) * (1 / ∑ j, Real.exp (x j - M))) * Real.log (Real.exp (x k - M) * (1 / ∑ j, Real.exp (x j - M))) : ℝ) : EReal) := fun k => by
      rw [max_eq_right (hc k), hPr, Ideal.log_coe, if_neg (not_le.2 (mul_pos (Real.exp_pos _) (one_div_pos.2 hs))), ← EReal.coe_mul]
    rw [Finset.sum_congr rfl fun k _ => hl k, coe_sum, Ideal.log_coe, if_neg (by norm_num), Ideal.div_coe h64, ← EReal.coe_neg, ← EReal.coe_mul]
    simp only [one_div]

/-- One less one less a real is the real. -/
theorem one_sub_one_sub (g : ℝ) : (1 : EReal) - (1 - (g : EReal)) = (g : EReal) := by
  rw [← EReal.coe_one, ← EReal.coe_sub, ← EReal.coe_sub]
  congr 1
  ring

/-- Weights times prototypes, projected, are weights times projected prototypes. -/
theorem reassoc {B D : ℕ} (p : Fin B → ℝ) (T : Fin B → Fin D → ℝ) (w : Fin D → ℝ) :
    (∑ x : Fin D, (∑ b : Fin B, ((p b : ℝ) : EReal) * ((T b x : ℝ) : EReal)) * ((w x : ℝ) : EReal))
      = ∑ b : Fin B, ((p b : ℝ) : EReal) * ∑ x : Fin D, ((T b x : ℝ) : EReal) * ((w x : ℝ) : EReal) := by
  simp only [← EReal.coe_mul, coe_sum]
  congr 1
  simp only [Finset.sum_mul, Finset.mul_sum]
  rw [Finset.sum_comm]
  exact Finset.sum_congr rfl fun b _ => Finset.sum_congr rfl fun x _ => by ring

/-- Each row has one mark: the bucket sums of a column, summed, are the column's sum. -/
theorem sum_marks {N : ℕ} (l : Fin N → Fin 64 → EReal) (y : Fin N → EReal) :
    ∑ b : Fin 64, ∑ n : Fin N, mark (l n) b * y n = ∑ n : Fin N, y n := by
  rw [Finset.sum_comm]
  refine Finset.sum_congr rfl fun n _ => ?_
  obtain ⟨c, hc⟩ := exists_first (l n)
  rw [Finset.sum_eq_single c]
  · unfold mark; rw [if_pos hc, one_mul]
  · intro b _ hb
    unfold mark
    rw [if_neg fun h => hb (h.unique hc), zero_mul]
  · intro h; exact absurd (Finset.mem_univ c) h

/-- A mark is a real. -/
theorem mark_real {M : ℕ} (l : Fin M → EReal) (b : Fin M) : ∃ k : ℝ, mark l b = (k : EReal) := by
  unfold mark
  split
  · exact ⟨1, rfl⟩
  · exact ⟨0, rfl⟩

/-- A prototype's entry is a real when the value rows are. -/
theorem proto_real {N : ℕ} (l : Fin N → Fin 64 → EReal) (y : Fin N → ℝ) (b : Fin 64) :
    ∃ T : ℝ, (if (∑ n : Fin N, mark (l n) b) = 0 then (∑ n : Fin N, ((y n : ℝ) : EReal)) * ((1 / 100000 : ℝ) : EReal)
      else Ideal.div (∑ n : Fin N, mark (l n) b * ((y n : ℝ) : EReal)) (max 1 (∑ n : Fin N, mark (l n) b))) = (T : EReal) := by
  choose k hk using fun n => mark_real (l n) b
  simp only [hk, ← EReal.coe_mul, coe_sum]
  split
  · exact ⟨_, rfl⟩
  · have : max (1 : EReal) ((∑ n, k n : ℝ) : EReal) = ((max 1 (∑ n, k n) : ℝ) : EReal) := by
      rw [← EReal.coe_one]; exact (EReal.coe_strictMono.monotone.map_max).symm
    rw [this, Ideal.div_coe (lt_of_lt_of_le one_pos (le_max_left 1 _)).ne', ← EReal.coe_mul]
    exact ⟨_, rfl⟩

end Cert.Refine.Entropy

end
-- ==== Proof.Value.Collected.lean ====
module

public import proofs.«01_k».proof.Proof.Value.Blocks
public import proofs.«01_k».proof.Proof.Value.Windows
public import proofs.«01_k».proof.Proof.Value.Entropy

/-! The bucket sums, counts and projected prototypes the kernel holds once every row is collected. -/

@[expose] public section

set_option maxRecDepth 16384

noncomputable section

namespace Cert.Refine.Collected

open Idealize.ShloMosaic Idealize.ShloMosaic.TcCoe Cert.KernelIdeal Cert.KernelIdeal.Gen Cert.Refine.Spec Cert.Refine.Payload Cert.Refine.Blocks Cert.Refine.Windows

variable (m : (ℓ : Loc nD τ sig) → Buf (Elt Ideal) ℓ) (c : Dev nD)

/-- The arguments as arrays of extended reals. -/
abbrev K : FVec Ideal ⟨2, ![100000, 64]⟩ .f32 := m ((c : Thread nD τ).loc main_arg3)
abbrev Vl : FVec Ideal ⟨2, ![100000, 128]⟩ .f32 := m ((c : Thread nD τ).loc main_arg1)
abbrev W : FVec Ideal ⟨2, ![128, 128]⟩ .f32 := m ((c : Thread nD τ).loc main_arg4)
abbrev Q : FVec Ideal ⟨2, ![100000, 64]⟩ .f32 := m ((c : Thread nD τ).loc main_arg2)
abbrev H : FVec Ideal ⟨2, ![100000, 128]⟩ .f32 := m ((c : Thread nD τ).loc main_arg0)

/-- The part of a sum over all rows that block `t` holds. -/
def part (f : Fin 100000 → EReal) (t : ℕ) : EReal :=
  if h : t < 10 then ∑ n : Fin 10000, f ⟨t * 10000 + n.val, by omega⟩ else 0

/-- The ten blocks' parts make the whole sum. -/
theorem parts (f : Fin 100000 → EReal) : ∑ t ∈ Finset.range 10, part f t = ∑ n, f n := by
  rw [Finset.sum_range, Fin.sum_univ_tiles 10 10000 rfl f]
  exact Finset.sum_congr rfl fun t _ => by rw [part, dif_pos t.isLt]

/-- A quantity that starts at zero and gains block `t`'s part at step `t` ends at the whole sum. -/
theorem gathered (f : Fin 100000 → EReal) (g : ℕ → EReal) (h0 : g 0 = 0) (hs : ∀ t, t < 10 → g (t + 1) = g t + part f t) : g 10 = ∑ n, f n := by
  have h : ∀ n, n ≤ 10 → g n = ∑ t ∈ Finset.range n, part f t := by
    intro n
    induction n with
    | zero => intro _; rw [h0, Finset.sum_range_zero]
    | succ n ih => intro hn; rw [hs n (by omega), ih (by omega), Finset.sum_range_succ]
  rw [h 10 le_rfl, parts]

/-- A block's row of bucket logits. -/
theorem keys_row (t : Fin cfg0.N) (ht : t.val < 10) (n : Fin 10000) :
    row (iblk m c 0 t : FVec Ideal S10000x64 .f32) n = row (K m c) (⟨t.val * 10000 + n.val, by omega⟩ : Fin 100000) :=
  funext fun k => keys m c t ht n k

/-- The bucket sums once every row is collected. -/
theorem sums_all (b : Fin 64) (d : Fin 128) :
    (sumsAfter m c 10 : FVec Ideal S64x128 .f32) (ix2 b d) = ∑ n : Fin 100000, mark (row (K m c) n) b * (Vl m c (ix2 n d) : EReal) := by
  refine gathered (fun n => mark (row (K m c) n) b * (Vl m c (ix2 n d) : EReal)) (fun n => (sumsAfter m c n : FVec Ideal S64x128 .f32) (ix2 b d)) (sums_zero b d) fun t ht => ?_
  have hN : t < cfg0.N := lt_of_lt_of_le ht (by decide)
  have e := sumsAfter_succ m c ⟨t, hN⟩
  show (sumsAfter m c (t + 1) : FVec Ideal S64x128 .f32) (ix2 b d) = _
  rw [show sumsAfter m c (t + 1) = _ from e, accStep_apply, part, dif_pos ht]
  refine congrArg _ (Finset.sum_congr rfl fun n _ => ?_)
  rw [keys_row m c ⟨t, hN⟩ ht n]
  exact congrArg _ (values m c ⟨t, hN⟩ ht n d)

/-- The bucket counts once every row is collected. -/
theorem counts_all (r : Fin 8) (b : Fin 64) :
    (countsAfter m c 10 : FVec Ideal S8x64 .f32) (ix2 r b) = ∑ n : Fin 100000, mark (row (K m c) n) b := by
  refine gathered (fun n => mark (row (K m c) n) b) (fun n => (countsAfter m c n : FVec Ideal S8x64 .f32) (ix2 r b)) (counts_zero r b) fun t ht => ?_
  have hN : t < cfg0.N := lt_of_lt_of_le ht (by decide)
  have e := countsAfter_succ m c ⟨t, hN⟩
  show (countsAfter m c (t + 1) : FVec Ideal S8x64 .f32) (ix2 r b) = _
  rw [show countsAfter m c (t + 1) = _ from e, cntStep_apply, part, dif_pos ht]
  exact congrArg _ (Finset.sum_congr rfl fun n _ => by rw [keys_row m c ⟨t, hN⟩ ht n])

/-- A bucket's prototype: the mean of its value rows, or of all of them where it has none. -/
def prototype (b : Fin 64) (d : Fin 128) : EReal :=
  if (∑ n, mark (row (K m c) n) b) = 0 then (∑ n : Fin 100000, (Vl m c (ix2 n d) : EReal)) * ((1 / 100000 : ℝ) : EReal)
  else Ideal.div (∑ n, mark (row (K m c) n) b * (Vl m c (ix2 n d) : EReal)) (max 1 (∑ n, mark (row (K m c) n) b))

/-- The projected prototypes. -/
theorem protoAll_apply (b : Fin 64) (d : Fin 128) :
    (protoAll m c : FVec Ideal S64x128 .f32) (ix2 b d) = ∑ x : Fin 128, prototype m c b x * (W m c (ix2 d x) : EReal) := by
  unfold protoAll
  rw [protoOf_apply]
  refine Finset.sum_congr rfl fun x _ => congrArg₂ _ ?_ (projection m c turn d x)
  rw [counts_all, sums_all]
  unfold prototype
  rw [show (∑ k : Fin 64, (sumsAfter m c 10 : FVec Ideal S64x128 .f32) (ix2 k x)) = ∑ n : Fin 100000, (Vl m c (ix2 n x) : EReal) from
    (Finset.sum_congr rfl fun k _ => sums_all m c k x).trans (Entropy.sum_marks (fun n => row (K m c) n) fun n => Vl m c (ix2 n x))]

end Cert.Refine.Collected

end
-- ==== Proof.Value.Arrays.lean ====
module

public import proofs.«01_k».proof.Proof.Value.Collected

/-! The two arrays the launch leaves, read at an index, and the kernel's two results. -/

@[expose] public section

set_option maxRecDepth 16384

noncomputable section

namespace Cert.Refine.Arrays

open Idealize.ShloMosaic Idealize.ShloMosaic.TcCoe Cert.KernelIdeal Cert.KernelIdeal.Gen Cert.Refine.Spec Cert.Refine.Payload Cert.Refine.Blocks Cert.Refine.Windows Cert.Refine.Collected

variable (m : (ℓ : Loc nD τ sig) → Buf (Elt Ideal) ℓ) (c : Dev nD)

/-- A row the kernel recovers: the feature row plus the gate times the weighted projected prototypes. -/
def recoveredAt (r : Fin 100000) (d : Fin 128) : EReal :=
  (H m c (ix2 r d) : EReal) + gate (row (Q m c) r) * ∑ x : Fin 64, weight (row (Q m c) r) x * Ideal.div 1 (total (row (Q m c) r)) * ((protoAll m c : FVec Ideal S64x128 .f32) (ix2 x d) : EReal)
/-- All the rows, and the confidences as a column. -/
def recoveredAll : FVec Ideal ⟨2, ![100000, 128]⟩ .f32 := fun i => recoveredAt m c (i 0) (i 1)
def confidentAll : FVec Ideal ⟨2, ![100000, 1]⟩ .f32 := fun i => 1 - gate (row (Q m c) (i 0))

/-- A block's row of query logits. -/
theorem queries_row (t : Fin cfg0.N) (ht : 10 ≤ t.val) (n : Fin 10000) (hn : (t.val - 10) * 10000 + n.val < 100000) :
    row (iblk m c 3 t : FVec Ideal S10000x64 .f32) n = row (Q m c) (⟨(t.val - 10) * 10000 + n.val, hn⟩ : Fin 100000) :=
  funext fun k => queries m c t ht n k

theorem flushed (t : Fin cfg0.N) (hf : (cfg0.win 5).flush t = true) : 10 ≤ t.val := by
  by_contra h
  rw [noFlush_out t (by omega)] at hf
  exact absurd hf (by decide)
theorem flushed' (t : Fin cfg0.N) (hf : (cfg0.win 6).flush t = true) : 10 ≤ t.val := by
  by_contra h
  rw [noFlush_conf t (by omega)] at hf
  exact absurd hf (by decide)

/-- The rows of a block, read off all the rows. -/
theorem block_rows (t : Fin cfg0.N) (ht : 10 ≤ t.val) (n : Fin 10000) (d : Fin 128) (hn : (t.val - 10) * 10000 + n.val < 100000) :
    recoveredBlock (iblk m c 3 t) (iblk m c 4 t) (protoAll m c) (ix2 n d) = recoveredAll m c (ix2 (⟨(t.val - 10) * 10000 + n.val, hn⟩ : Fin 100000) d) := by
  show Blocks.recovered (iblk m c 3 t) (iblk m c 4 t) (protoAll m c) n d = recoveredAt m c ⟨(t.val - 10) * 10000 + n.val, hn⟩ d
  unfold Blocks.recovered recoveredAt
  rw [queries_row m c t ht n hn]
  exact congrArg (· + _) (rows m c t ht n d)
theorem block_confidences (t : Fin cfg0.N) (ht : 10 ≤ t.val) (n : Fin 10000) (d : Fin 1) (hn : (t.val - 10) * 10000 + n.val < 100000) :
    confidentBlock (iblk m c 3 t) (ix2 n d) = confidentAll m c (ix2 (⟨(t.val - 10) * 10000 + n.val, hn⟩ : Fin 100000) d) := by
  show 1 - gate (row (iblk m c 3 t : FVec Ideal S10000x64 .f32) n) = 1 - gate (row (Q m c) ⟨(t.val - 10) * 10000 + n.val, hn⟩)
  rw [queries_row m c t ht n hn]

/-- Where a block's rows lie in the array. -/
theorem place_rows (t : Fin cfg0.N) (n : Fin 10000) (d : Fin 128) (hn : (t.val - 10) * 10000 + n.val < 100000) :
    (win0_5.blk t).view.emb (ix2 n d) = ix2 (⟨(t.val - 10) * 10000 + n.val, hn⟩ : Fin 100000) d := by
  have h := (idx t).2.2.2.2.2.1
  blk_ext [h]
theorem place_confidences (t : Fin cfg0.N) (n : Fin 10000) (d : Fin 1) (hn : (t.val - 10) * 10000 + n.val < 100000) :
    (win0_6.blk t).view.emb (ix2 n d) = ix2 (⟨(t.val - 10) * 10000 + n.val, hn⟩ : Fin 100000) d := by
  have h := (idx t).2.2.2.2.2.2
  blk_ext [h]

theorem rows_placed (t : Fin cfg0.N) (ht : 10 ≤ t.val) (y : S10000x128.Idx) :
    recoveredBlock (iblk m c 3 t) (iblk m c 4 t) (protoAll m c) y = recoveredAll m c ((win0_5.blk t).view.emb y) := by
  obtain ⟨n, d, rfl⟩ : ∃ (n : Fin 10000) (d : Fin 128), y = ix2 n d := ⟨y 0, y 1, eq_ix2 y⟩
  have hn : (t.val - 10) * 10000 + n.val < 100000 := by have := points t; omega
  exact (block_rows m c t ht n d hn).trans (congrArg (recoveredAll m c) (place_rows t n d hn).symm)
theorem confidences_placed (t : Fin cfg0.N) (ht : 10 ≤ t.val) (y : S10000x1.Idx) :
    confidentBlock (iblk m c 3 t) y = confidentAll m c ((win0_6.blk t).view.emb y) := by
  obtain ⟨n, d, rfl⟩ : ∃ (n : Fin 10000) (d : Fin 1), y = ix2 n d := ⟨y 0, y 1, eq_ix2 y⟩
  have hn : (t.val - 10) * 10000 + n.val < 100000 := by have := points t; omega
  exact (block_confidences m c t ht n d hn).trans (congrArg (confidentAll m c) (place_confidences t n d hn).symm)

/-- The array of recovered rows after the launch. -/
theorem out_array : (dats m 0 c).arrAt 5 cfg0.N = recoveredAll m c := by
  refine (dats m 0 c).arrAt_eq_of_covers 5 _ (by decide +kernel) fun t hf y => ?_
  blk_simp
  rw [after_out, outBlock_eq]
  exact rows_placed m c t (flushed t hf) y
/-- The array of confidences after the launch. -/
theorem conf_array : (dats m 0 c).arrAt 6 cfg0.N = confidentAll m c := by
  refine (dats m 0 c).arrAt_eq_of_covers 6 _ (by decide +kernel) fun t hf y => ?_
  blk_simp
  rw [after_conf, confBlock_eq]
  exact confidences_placed m c t (flushed' t hf) y

/-! ## The results -/

/-- The confidences as a list. -/
def confidentList : FVec Ideal ⟨1, ![100000]⟩ .f32 := fun i => 1 - gate (row (Q m c) (i 0))

/-- The column of confidences, flattened, is the list. -/
theorem flatten_column : shapeCast S100000 (confidentAll m c) shapeCasts_S100000x1_S100000 = confidentList m c := by
  funext i
  obtain ⟨r, rfl⟩ : ∃ r : Fin 100000, i = ix1 r := ⟨i 0, eq_ix1 i⟩
  have h : shapeCast S100000 (confidentAll m c) shapeCasts_S100000x1_S100000 (ix1 r) = confidentAll m c (ix2 r (0 : Fin 1)) := by
    pointwise
  exact h

/-- What the line after the launch leaves in the second result: the array of confidences, flattened. -/
theorem tail_read : Pipeline.afterTail₀ cfgs (dats m) 0 (V0 m) [hostOps1] c main_v0_1
    = shapeCast S100000 ((dats m 0 c).arrAt 6 cfg0.N : FVec Ideal S100000x1 .f32) shapeCasts_S100000x1_S100000 := by
  have e : Pipeline.withArrays (cfgs 0).spec c (V0 m c) (fun w => (dats m 0 c).arrAt w (cfgs 0).N) (Proc.devRef .tc main_call0_v0_1) = (dats m 0 c).arrAt 6 cfg0.N :=
    Pipeline.withArrays_arr spec0 launch0.win.arr_inj c (V0 m c) (fun w => (dats m 0 c).arrAt w cfg0.N) 6
  unfold Pipeline.afterTail₀
  simp only [List.flatten_cons, List.flatten_nil, List.append_nil, hostOps1, StableHlo.TRef.reshape]
  exact (StableHlo.reshape_result main_call0_v0_1 main_v0_1 rfl shapeCasts_S100000x1_S100000 (by decide) (by decide) _).trans
    (congrArg (fun x : FVec Ideal S100000x1 .f32 => shapeCast S100000 x shapeCasts_S100000x1_S100000) e)

/-- Every execution of the kernel ends with the recovered rows and their confidences, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = recoveredAll m c
      ∧ r.2.mem ((c.tc : Thread nD τ).loc main_v0_1) = confidentList m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (out_array m c),
      ((h.1 c).2 main_v0_1 (by decide)).trans ((tail_read m c).trans ((congrArg (fun x : FVec Ideal S100000x1 .f32 => shapeCast S100000 x shapeCasts_S100000x1_S100000) (conf_array m c)).trans (flatten_column m c))),
      h.2 c⟩) (θ_run_and (run_main m ρ) (unchanged m ρ))

end Cert.Refine.Arrays

end
-- ==== Proof.Value.Rows.lean ====
module

public import Idealize.ShloMosaic.PureOps.Ideal.Laws
public import Idealize.ShloMosaic.Lib.Pointwise
public import Idealize.ShloMosaic.Lib.Routing.OpsPair

/-! The reference's host operations read row by row, at any number of rows: a row's greatest entry, a sum along either
axis of a table, the place of a row's greatest entry, and a sum of rows by their bucket. -/

@[expose] public section

set_option maxRecDepth 16384

noncomputable section
namespace Cert.Refine.Rows

open Idealize.ShloMosaic

variable {N M : ℕ}

/-- Reducing a table along its rows keeps the row number. -/
theorem drop_row (h : (⟨2, ![N, M]⟩ : Shape).ReducesTo [1] ⟨1, ![N]⟩) (i : (⟨2, ![N, M]⟩ : Shape).Idx) (r : Fin N) :
    h.drop i = ix1 r ↔ i 0 = r := by
  constructor
  · intro e; exact congrFun e 0
  · intro e; funext a; rw [Fin.fin_one_eq_zero a]; exact e

/-- Reducing a table along its columns keeps the column number. -/
theorem drop_col (h : (⟨2, ![N, M]⟩ : Shape).ReducesTo [0] ⟨1, ![M]⟩) (i : (⟨2, ![N, M]⟩ : Shape).Idx) (r : Fin M) :
    h.drop i = ix1 r ↔ i 1 = r := by
  constructor
  · intro e; exact congrFun e 0
  · intro e; funext a; rw [Fin.fin_one_eq_zero a]; exact e

/-- The indices of a row. -/
theorem filter_row (h : (⟨2, ![N, M]⟩ : Shape).ReducesTo [1] ⟨1, ![N]⟩) (r : Fin N) :
    (Finset.univ.filter fun i => h.drop i = ix1 r) = Finset.univ.image fun k : Fin M => ix2 r k := by
  ext i
  rw [Finset.mem_filter, Finset.mem_image, drop_row]
  constructor
  · rintro ⟨-, e⟩; exact ⟨i 1, Finset.mem_univ _, by rw [← e]; exact (eq_ix2 i).symm⟩
  · rintro ⟨k, -, rfl⟩; exact ⟨Finset.mem_univ _, rfl⟩

theorem filter_col (h : (⟨2, ![N, M]⟩ : Shape).ReducesTo [0] ⟨1, ![M]⟩) (r : Fin M) :
    (Finset.univ.filter fun i => h.drop i = ix1 r) = Finset.univ.image fun k : Fin N => ix2 k r := by
  ext i
  rw [Finset.mem_filter, Finset.mem_image, drop_col]
  constructor
  · rintro ⟨-, e⟩; exact ⟨i 0, Finset.mem_univ _, by rw [← e]; exact (eq_ix2 i).symm⟩
  · rintro ⟨k, -, rfl⟩; exact ⟨Finset.mem_univ _, rfl⟩

/-- A row's greatest entry: the fold of the maximum over the row. -/
theorem max_row {u : Shape} (x : FVec Ideal ⟨2, ![N, M]⟩ .f32) (v : FVec Ideal u .f32)
    (h : (⟨2, ![N, M]⟩ : Shape).ReducesTo [1] ⟨1, ![N]⟩) (hu : 0 < u.numel) (r : Fin N) :
    Host.reduce FloatOps.maximumf x v h hu (ix1 r)
      = Finset.univ.fold max (v (Shape.Idx.first hu)) (fun k : Fin M => x (ix2 r k)) := by
  rw [Host.reduce_eq_fold, filter_row, Finset.fold_image fun a _ b _ e => (congrFun e 1 : a = b)]
  rfl

/-- The sum along a row. -/
theorem sum_row {u : Shape} (x : FVec Ideal ⟨2, ![N, M]⟩ .f32) (v : FVec Ideal u .f32)
    (h : (⟨2, ![N, M]⟩ : Shape).ReducesTo [1] ⟨1, ![N]⟩) (hu : 0 < u.numel) (r : Fin N) :
    Host.reduceAdd x v h hu (ix1 r) = v (Shape.Idx.first hu) + ∑ k : Fin M, (x (ix2 r k) : EReal) := by
  show (v (Shape.Idx.first hu) : EReal) + ∑ i ∈ Finset.univ.filter (fun i => h.drop i = ix1 r), (x i : EReal) = _
  rw [filter_row, Finset.sum_image fun a _ b _ e => (congrFun e 1 : a = b)]

/-- The sum along a column. -/
theorem sum_col {u : Shape} (x : FVec Ideal ⟨2, ![N, M]⟩ .f32) (v : FVec Ideal u .f32)
    (h : (⟨2, ![N, M]⟩ : Shape).ReducesTo [0] ⟨1, ![M]⟩) (hu : 0 < u.numel) (r : Fin M) :
    Host.reduceAdd x v h hu (ix1 r) = v (Shape.Idx.first hu) + ∑ k : Fin N, (x (ix2 k r) : EReal) := by
  show (v (Shape.Idx.first hu) : EReal) + ∑ i ∈ Finset.univ.filter (fun i => h.drop i = ix1 r), (x i : EReal) = _
  rw [filter_col, Finset.sum_image fun a _ b _ e => (congrFun e 0 : a = b)]

/-! ## Sums of rows by bucket -/

section Scatter
variable {B : ℕ}

/-- Row `n`'s entry `e` is added at `(b, c)` exactly when the row's word is `b` and `e` is `c`. -/
theorem lands_table (d : ScatterDims ⟨2, ![B, M]⟩ ⟨2, ![N, 1]⟩ ⟨2, ![N, M]⟩) (hu : d.updateWindowDims = [1])
    (hi : d.insertedWindowDims = [0]) (hs : d.scatterDimsToOperandDims = [0]) (hv : d.indexVectorDim = 1)
    (idx : IVec ⟨2, ![N, 1]⟩ 32) (n : Fin N) (e : Fin M) (b : Fin B) (c : Fin M) :
    d.resultIdx? (ix2 n e) idx = some (ix2 b c) ↔ (idx (ix2 n 0)).toInt = b.val ∧ e = c := by
  have hm : (0 : Fin 2) ∈ d.scatterDimsToOperandDims := by rw [hs]; simp
  have hk : d.siKept = [0] := by
    show (List.finRange 2).filter (fun x => decide (x.val ≠ d.indexVectorDim)) = _
    rw [hv]
    rfl
  have hus : d.uScatter = [0] := by
    show (⟨2, ![N, M]⟩ : Shape).kept d.updateWindowDims = _
    rw [hu]
    rfl
  have get : ∀ (l : List (Fin 2)) (n : ℕ) (h : n < l.length) (a : Fin 2), l = [a] → l[n]'h = a := by
    intro l n h a hl
    subst hl
    obtain rfl : n = 0 := by simpa using h
    rfl
  have hsi : d.siIdx (ix2 n e) ⟨d.scatterDimsToOperandDims.idxOf 0, List.idxOf_lt_length_iff.2 hm⟩ = ix2 n 0 := by
    funext a
    apply Fin.ext
    match a with
    | ⟨0, _⟩ =>
      unfold ScatterDims.siIdx
      rw [dif_neg (by rw [hv]; exact (by decide : (0 : ℕ) ≠ 1))]
      unfold ScatterDims.siCoord
      simp only [Fin.val_cast]
      rw [get _ _ _ 0 hus]
      rfl
    | ⟨1, _⟩ =>
      unfold ScatterDims.siIdx
      rw [dif_pos (by rw [hv])]
      show List.idxOf 0 d.scatterDimsToOperandDims = 0
      rw [hs]
      rfl
  have st0 : d.start (ix2 n e) idx 0 = (idx (ix2 n 0)).toInt := by
    unfold ScatterDims.start
    rw [dif_pos hm, hsi]
  have st1 : d.start (ix2 n e) idx 1 = 0 := by
    unfold ScatterDims.start
    rw [dif_neg (by rw [hs]; simp)]
  have wi0 : d.window (ix2 n e) 0 = 0 := by
    unfold ScatterDims.window
    rw [dif_neg fun h => (of_decide_eq_true (List.mem_filter.1 h).2) (by rw [hi]; simp)]
  have wi1 : d.window (ix2 n e) 1 = e.val := by
    unfold ScatterDims.window
    have hk1 : (1 : Fin 2) ∈ d.sKept := List.mem_filter.2 ⟨List.mem_finRange _, decide_eq_true (by rw [hi]; simp)⟩
    rw [dif_pos hk1]
    rw [get _ _ _ 1 hu]
    rfl
  rw [Routing.resultIdx?_eq_some]
  constructor
  · intro h
    have h0 := h 0
    have h1 := h 1
    rw [st0, wi0] at h0
    rw [st1, wi1] at h1
    have e0 : ((ix2 b c : (⟨2, ![B, M]⟩ : Shape).Idx) 0).val = b.val := rfl
    have e1 : ((ix2 b c : (⟨2, ![B, M]⟩ : Shape).Idx) 1).val = c.val := rfl
    rw [e0] at h0
    rw [e1] at h1
    exact ⟨by omega, Fin.ext (by omega)⟩
  · rintro ⟨h, rfl⟩ a
    match a with
    | ⟨0, _⟩ =>
      show d.start (ix2 n e) idx 0 + (d.window (ix2 n e) 0 : Int) = (b.val : Int)
      rw [st0, wi0]; omega
    | ⟨1, _⟩ =>
      show d.start (ix2 n e) idx 1 + (d.window (ix2 n e) 1 : Int) = (e.val : Int)
      rw [st1, wi1]; omega

/-- One is added at `b` for row `n` exactly when the row's word is `b`. -/
theorem lands_list (d : ScatterDims ⟨1, ![B]⟩ ⟨2, ![N, 1]⟩ ⟨1, ![N]⟩) (hu : d.updateWindowDims = [])
    (hi : d.insertedWindowDims = [0]) (hs : d.scatterDimsToOperandDims = [0]) (hv : d.indexVectorDim = 1)
    (idx : IVec ⟨2, ![N, 1]⟩ 32) (n : Fin N) (b : Fin B) :
    d.resultIdx? (ix1 n) idx = some (ix1 b) ↔ (idx (ix2 n 0)).toInt = b.val := by
  have hm : (0 : Fin 1) ∈ d.scatterDimsToOperandDims := by rw [hs]; simp
  have hus : d.uScatter = [0] := by
    show (⟨1, ![N]⟩ : Shape).kept d.updateWindowDims = _
    rw [hu]
    rfl
  have get : ∀ (l : List (Fin 1)) (n : ℕ) (h : n < l.length) (a : Fin 1), l = [a] → l[n]'h = a := by
    intro l n h a hl
    subst hl
    obtain rfl : n = 0 := by simpa using h
    rfl
  have hsi : d.siIdx (ix1 n) ⟨d.scatterDimsToOperandDims.idxOf 0, List.idxOf_lt_length_iff.2 hm⟩ = ix2 n 0 := by
    funext a
    apply Fin.ext
    match a with
    | ⟨0, _⟩ =>
      unfold ScatterDims.siIdx
      rw [dif_neg (by rw [hv]; exact (by decide : (0 : ℕ) ≠ 1))]
      unfold ScatterDims.siCoord
      simp only [Fin.val_cast]
      rw [get _ _ _ 0 hus]
      rfl
    | ⟨1, _⟩ =>
      unfold ScatterDims.siIdx
      rw [dif_pos (by rw [hv])]
      show List.idxOf 0 d.scatterDimsToOperandDims = 0
      rw [hs]
      rfl
  have st0 : d.start (ix1 n) idx 0 = (idx (ix2 n 0)).toInt := by
    unfold ScatterDims.start
    rw [dif_pos hm, hsi]
  have wi0 : d.window (ix1 n) 0 = 0 := by
    unfold ScatterDims.window
    rw [dif_neg fun h => (of_decide_eq_true (List.mem_filter.1 h).2) (by rw [hi]; simp)]
  rw [Routing.resultIdx?_eq_some]
  constructor
  · intro h
    have h0 := h 0
    rw [st0, wi0] at h0
    have e0 : ((ix1 b : (⟨1, ![B]⟩ : Shape).Idx) 0).val = b.val := rfl
    rw [e0] at h0
    omega
  · intro h a
    rw [Fin.fin_one_eq_zero a]
    show d.start (ix1 n) idx 0 + (d.window (ix1 n) 0 : Int) = (b.val : Int)
    rw [st0, wi0]; omega

open scoped Classical in
/-- Rows summed by their word: the entry at `(b, c)` is the start there and the entries in column `c` of the rows whose word is `b`. -/
theorem scatter_table (d : ScatterDims ⟨2, ![B, M]⟩ ⟨2, ![N, 1]⟩ ⟨2, ![N, M]⟩) (hu : d.updateWindowDims = [1])
    (hi : d.insertedWindowDims = [0]) (hs : d.scatterDimsToOperandDims = [0]) (hv : d.indexVectorDim = 1)
    (x : FVec Ideal ⟨2, ![B, M]⟩ .f32) (idx : IVec ⟨2, ![N, 1]⟩ 32) (y : FVec Ideal ⟨2, ![N, M]⟩ .f32) (b : Fin B) (c : Fin M) :
    Host.scatterAdd d x idx y (ix2 b c)
      = x (ix2 b c) + ∑ n : Fin N, if (idx (ix2 n 0)).toInt = b.val then (y (ix2 n c) : EReal) else 0 := by
  show (x (ix2 b c) : EReal) + ∑ j ∈ Finset.univ.filter (fun j => d.resultIdx? j idx = some (ix2 b c)), (y j : EReal) = _
  congr 1
  rw [Finset.sum_filter, sum_idx2]
  refine Finset.sum_congr rfl fun n _ => ?_
  rw [Finset.sum_eq_single c]
  · by_cases h : (idx (ix2 n 0)).toInt = b.val
    · rw [if_pos h, if_pos ((lands_table d hu hi hs hv idx n c b c).2 ⟨h, rfl⟩)]
    · rw [if_neg h, if_neg fun e => h ((lands_table d hu hi hs hv idx n c b c).1 e).1]
  · intro e _ hne
    exact if_neg fun e' => hne ((lands_table d hu hi hs hv idx n e b c).1 e').2
  · intro hc; exact absurd (Finset.mem_univ c) hc

open scoped Classical in
/-- Numbers summed by their row's word. -/
theorem scatter_list (d : ScatterDims ⟨1, ![B]⟩ ⟨2, ![N, 1]⟩ ⟨1, ![N]⟩) (hu : d.updateWindowDims = [])
    (hi : d.insertedWindowDims = [0]) (hs : d.scatterDimsToOperandDims = [0]) (hv : d.indexVectorDim = 1)
    (x : FVec Ideal ⟨1, ![B]⟩ .f32) (idx : IVec ⟨2, ![N, 1]⟩ 32) (y : FVec Ideal ⟨1, ![N]⟩ .f32) (b : Fin B) :
    Host.scatterAdd d x idx y (ix1 b)
      = x (ix1 b) + ∑ n : Fin N, if (idx (ix2 n 0)).toInt = b.val then (y (ix1 n) : EReal) else 0 := by
  show (x (ix1 b) : EReal) + ∑ j ∈ Finset.univ.filter (fun j => d.resultIdx? j idx = some (ix1 b)), (y j : EReal) = _
  congr 1
  rw [Finset.sum_filter, sum_idx1]
  refine Finset.sum_congr rfl fun n _ => ?_
  by_cases h : (idx (ix2 n 0)).toInt = b.val
  · rw [if_pos h, if_pos ((lands_list d hu hi hs hv idx n b).2 h)]
  · rw [if_neg h, if_neg fun e => h ((lands_list d hu hi hs hv idx n b).1 e)]

end Scatter

end Cert.Refine.Rows

end
-- ==== Proof.Value.Argmax.lean ====
module

public import proofs.«01_k».proof.Proof.Value.Spec
public import proofs.«01_k».proof.Proof.Value.Rows
public import proofs.«01_k».proof.Proof.Gen.ReferenceIdeal

/-! The reference's arg-max of a row is the row's bucket. -/

@[expose] public section

set_option maxRecDepth 16384

noncomputable section
namespace Cert.Refine.Argmax

open Idealize.ShloMosaic Cert.ReferenceIdeal Cert.ReferenceIdeal.Gen Cert.Refine.Spec Cert.Refine.Rows

/-- Of two pairs the first is the arg-max's choice: the greater value, or at equal values the smaller place. -/
def Better (p q : EReal × BitVec 32) : Prop := q.1 < p.1 ∨ (q.1 = p.1 ∧ p.2.toInt ≤ q.2.toInt)

theorem Better.refl (p : EReal × BitVec 32) : Better p p := .inr ⟨rfl, le_rfl⟩

theorem Better.trans {p q s : EReal × BitVec 32} (h : Better p q) (h' : Better q s) : Better p s := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- The arg-max's body keeps one of its two pairs, and the better one. -/
theorem body (a b : EReal × BitVec 32) :
    (reducer_argmax_f32_i32 (F := Ideal) a b = a ∨ reducer_argmax_f32_i32 (F := Ideal) a b = b)
      ∧ Better (reducer_argmax_f32_i32 (F := Ideal) a b) a ∧ Better (reducer_argmax_f32_i32 (F := Ideal) a b) b := by
  obtain ⟨x, i⟩ := a
  obtain ⟨y, j⟩ := b
  have key : reducer_argmax_f32_i32 (F := Ideal) (x, i) (y, j)
      = (if y < x then x else y, if y < x ∨ (x = y ∧ i.toInt < j.toInt) then i else j) := by
    unfold reducer_argmax_f32_i32
    by_cases h : y < x
    · have h2 : ¬ x = y := fun e => absurd (e ▸ h) (lt_irrefl _)
      simp [FloatOps.cmpf, Ideal.cmp, IntOp.ori, IntOp.andi, IntOp.cmpi, Scalar.select, h, h2]
    · by_cases h2 : x = y
      · by_cases h3 : i.toInt < j.toInt
        · have h4 : i.slt j = true := BitVec.slt_iff_toInt_lt.2 h3
          simp [FloatOps.cmpf, Ideal.cmp, IntOp.ori, IntOp.andi, IntOp.cmpi, Scalar.select, h, h2, h3, h4]
        · have h4 : i.slt j = false := Bool.eq_false_iff.2 fun e => h3 (BitVec.slt_iff_toInt_lt.1 e)
          simp [FloatOps.cmpf, Ideal.cmp, IntOp.ori, IntOp.andi, IntOp.cmpi, Scalar.select, h, h2, h3, h4]
      · simp [FloatOps.cmpf, Ideal.cmp, IntOp.ori, IntOp.andi, IntOp.cmpi, Scalar.select, h, h2]
  rw [key]
  by_cases h : y < x
  · rw [if_pos h, if_pos (.inl h)]
    exact ⟨.inl rfl, .refl _, .inl h⟩
  · rw [if_neg h]
    by_cases h3 : x = y ∧ i.toInt < j.toInt
    · rw [if_pos (.inr h3), ← h3.1]
      exact ⟨.inl rfl, .refl _, .inr ⟨h3.1 ▸ rfl, h3.2.le⟩⟩
    · rw [if_neg (not_or.2 ⟨h, h3⟩)]
      refine ⟨.inr rfl, ?_, .refl _⟩
      rcases lt_or_eq_of_le (not_lt.1 h) with hl | he
      · exact .inl hl
      · exact .inr ⟨he, not_lt.1 fun hij => h3 ⟨he, hij⟩⟩

/-- Folding the body over a list keeps one of the pairs met, better than each. -/
theorem foldl_body (l : List (EReal × BitVec 32)) (p : EReal × BitVec 32) :
    (l.foldl (reducer_argmax_f32_i32 (F := Ideal)) p = p ∨ l.foldl (reducer_argmax_f32_i32 (F := Ideal)) p ∈ l)
      ∧ Better (l.foldl (reducer_argmax_f32_i32 (F := Ideal)) p) p
      ∧ ∀ q ∈ l, Better (l.foldl (reducer_argmax_f32_i32 (F := Ideal)) p) q := by
  induction l generalizing p with
  | nil => exact ⟨.inl rfl, .refl _, fun q hq => absurd hq List.not_mem_nil⟩
  | cons a l ih =>
    obtain ⟨hm, hp, hl⟩ := ih (reducer_argmax_f32_i32 (F := Ideal) p a)
    obtain ⟨bm, bp, ba⟩ := body p a
    rw [List.foldl_cons]
    refine ⟨?_, hp.trans bp, fun q hq => ?_⟩
    · rcases hm with e | e
      · rw [e]
        rcases bm with e' | e'
        · exact .inl e'
        · exact .inr (by rw [e']; exact List.mem_cons_self)
      · exact .inr (List.mem_cons_of_mem _ e)
    · rcases List.mem_cons.1 hq with rfl | hq
      · exact hp.trans ba
      · exact hl q hq

variable {N : ℕ}

/-- The arg-max of row `r`, from minus infinity at place zero, is the row's bucket. -/
theorem argmax_row {u : Shape} (x : FVec Ideal ⟨2, ![N, 64]⟩ .f32) (y : IVec ⟨2, ![N, 64]⟩ 32) (hy : ∀ i, y i = BitVec.ofNat 32 (i 1).val)
    (v : FVec Ideal u .f32) (w : IVec u 32) (h : (⟨2, ![N, 64]⟩ : Shape).ReducesTo [1] ⟨1, ![N]⟩) (hu : 0 < u.numel)
    (hv : v (Shape.Idx.first hu) = (⊥ : EReal)) (hw : w (Shape.Idx.first hu) = 0#32) (r : Fin N) :
    ∃ b : Fin 64, First (fun k : Fin 64 => (x (ix2 r k) : EReal)) b
      ∧ (Host.argReduce (reducer_argmax_f32_i32 (F := Ideal)) x y v w h hu (ix1 r)).2.toInt = b.val := by
  rw [Ideal.argReduce_eq_reduce2, Host.reduce2_eq_foldl_fiber, hv, hw]
  have fib : ∀ q, q ∈ Host.argReduceFiber x y h (ix1 r) ↔ ∃ k : Fin 64, q = (x (ix2 r k), BitVec.ofNat 32 k.val) := by
    intro q
    unfold Host.argReduceFiber
    rw [List.mem_map]
    constructor
    · rintro ⟨n, hn, rfl⟩
      have hd := of_decide_eq_true (List.mem_filter.1 hn).2
      rw [drop_row] at hd
      refine ⟨((⟨2, ![N, 64]⟩ : Shape).rowMajor.symm n) 1, ?_⟩
      rw [hy, ← hd]
      exact congrArg (fun i => (x i, BitVec.ofNat 32 ((((⟨2, ![N, 64]⟩ : Shape).rowMajor.symm n) 1)).val)) (eq_ix2 _)
    · rintro ⟨k, rfl⟩
      refine ⟨(⟨2, ![N, 64]⟩ : Shape).rowMajor (ix2 r k), List.mem_filter.2 ⟨List.mem_finRange _, decide_eq_true ?_⟩, ?_⟩
      · rw [Equiv.symm_apply_apply, drop_row]; rfl
      · rw [Equiv.symm_apply_apply, hy]; rfl
  obtain ⟨hm, hp, hl⟩ := foldl_body (Host.argReduceFiber x y h (ix1 r)) ((⊥ : EReal), 0#32)
  generalize hP : (Host.argReduceFiber x y h (ix1 r)).foldl (reducer_argmax_f32_i32 (F := Ideal)) ((⊥ : EReal), 0#32) = p at hm hp hl
  have top : ∀ k : Fin 64, (x (ix2 r k) : EReal) ≤ p.1 := fun k => by
    rcases hl _ ((fib _).2 ⟨k, rfl⟩) with h1 | h1
    · exact h1.le
    · exact h1.1.le
  rcases hm with e | e
  · refine ⟨0, ⟨?_, fun k hk => absurd hk (Fin.not_lt_zero k)⟩, by rw [e]; rfl⟩
    have hb : ∀ k : Fin 64, (x (ix2 r k) : EReal) ≤ ⊥ := fun k => by have := top k; rw [e] at this; exact this
    exact (le_bot_iff.1 (hb 0)).trans (le_bot_iff.1 (peak_le hb)).symm
  · obtain ⟨k, hk⟩ := (fib _).1 e
    have hpk : peak (fun k : Fin 64 => (x (ix2 r k) : EReal)) = x (ix2 r k) :=
      le_antisymm (peak_le fun j => by have := top j; rw [hk] at this; exact this) (le_peak (fun k : Fin 64 => (x (ix2 r k) : EReal)) k)
    refine ⟨k, ⟨hpk.symm, fun j hj ej => ?_⟩, by rw [hk]; exact toInt_small (by omega)⟩
    rcases hl _ ((fib _).2 ⟨j, rfl⟩) with h1 | h1
    · rw [hk] at h1; exact absurd (ej.trans hpk) (ne_of_lt h1)
    · rw [hk] at h1
      have h2 := h1.2
      rw [toInt_small (n := k.val) (by omega), toInt_small (n := j.val) (by omega)] at h2
      omega

end Cert.Refine.Argmax

end
-- ==== Proof.Value.RefRead.lean ====
module

public import proofs.«01_k».proof.Proof.Value.Argmax
public import proofs.«01_k».proof.Proof.Ref.Run

/-! The reference's stages, read at an index in plain sums over rows and buckets. -/

@[expose] public section

set_option maxRecDepth 16384

noncomputable section
namespace Cert.Refine.RefRead

open Idealize.ShloMosaic Cert.ReferenceIdeal Cert.ReferenceIdeal.Gen Cert.Refine.Spec Cert.Refine.Rows Cert.Refine.Argmax Cert.Refine.Ref

theorem ofBits_bot : Ideal.ofBits .f32 0xFF800000#32 = (⊥ : EReal) := by
  simp [Ideal.ofBits, Ideal.ieee]
theorem ofBits_zero : Ideal.ofBits .f32 0x00000000#32 = (0 : EReal) := by
  simp [Ideal.ofBits, Ideal.ieee]
theorem ofBits_one : Ideal.ofBits .f32 0x3F800000#32 = (1 : EReal) := by
  rw [show (1 : EReal) = ((1 : ℝ) : EReal) from rfl]
  simp [Ideal.ofBits, Ideal.ieee, -EReal.coe_mul, -EReal.coe_one]; norm_num
theorem ofBits_rows : Ideal.ofBits .f32 0x47C35000#32 = ((100000 : ℝ) : EReal) := by
  simp [Ideal.ofBits, Ideal.ieee, -EReal.coe_mul]; norm_num
theorem ofBits_buckets : Ideal.ofBits .f32 0x42800000#32 = ((64 : ℝ) : EReal) := by
  simp [Ideal.ofBits, Ideal.ieee, -EReal.coe_mul]; norm_num
/-- The clip's bound is a positive real. -/
theorem ofBits_clip : ∃ c : ℝ, 0 < c ∧ Ideal.ofBits .f32 0x3089705F#32 = (c : EReal) := by
  refine ⟨_, ?_, by simp [Ideal.ofBits, Ideal.ieee, -EReal.coe_mul]; rfl⟩
  norm_num

variable (lk q : FVec Ideal S100000x64 .f32) (V h : FVec Ideal S100000x128 .f32) (W : FVec Ideal S128x128 .f32)

theorem argmax_at (x : FVec Ideal S_ .f32) (y : IVec S_ 32) (hx : x (Shape.Idx.first h_S_) = (⊥ : EReal))
    (hy : y (Shape.Idx.first h_S_) = 0#32) (r : Fin 100000) :
    ∃ b : Fin 64, First (row lk r) b
      ∧ (Host.argReduce (reducer_argmax_f32_i32 (F := Ideal)) lk (iotaInDim S100000x64 32 1) x y reducesTo_S100000x64_S100000_d1 h_S_ (ix1 r)).2.toInt = b.val :=
  argmax_row lk (iotaInDim S100000x64 32 1) (fun i => rfl) x y reducesTo_S100000x64_S100000_d1 h_S_ hx hy r

theorem bucket_of (R : S100000.Idx → EReal × BitVec 32) (w : IVec S100000 32) (hw : w = fun j => (R j).2)
    (hR : ∀ r, ∃ b : Fin 64, First (row lk r) b ∧ (R (ix1 r)).2.toInt = b.val) (r : Fin 100000) :
    ∃ b : Fin 64, First (row lk r) b ∧ (w (ix1 r)).toInt = b.val := by
  subst hw
  exact hR r

theorem bot_at : (constant (F := Ideal) S_ .f32 0xFF800000#32) (Shape.Idx.first h_S_) = (⊥ : EReal) := ofBits_bot
theorem word_at : (constantI S_ 32 0#32) (Shape.Idx.first h_S_) = 0#32 := rfl

theorem bucket_eq : bucket (F := Ideal) lk = fun j => (Host.argReduce (reducer_argmax_f32_i32 (F := Ideal)) lk (iotaInDim S100000x64 32 1) (constant S_ .f32 0xFF800000#32) (constantI S_ 32 0#32) reducesTo_S100000x64_S100000_d1 h_S_ j).2 := by
  delta bucket
  with_reducible rfl

/-- The reference's bucket word of a row is the row's bucket. -/
theorem bucket_spec (r : Fin 100000) : ∃ b : Fin 64, First (row lk r) b ∧ (bucket (F := Ideal) lk (ix1 r)).toInt = b.val :=
  bucket_of lk (Host.argReduce (reducer_argmax_f32_i32 (F := Ideal)) lk (iotaInDim S100000x64 32 1) (constant S_ .f32 0xFF800000#32) (constantI S_ 32 0#32) reducesTo_S100000x64_S100000_d1 h_S_)
    (bucket (F := Ideal) lk) (bucket_eq lk) (fun r => argmax_at lk (constant S_ .f32 0xFF800000#32) (constantI S_ 32 0#32) bot_at word_at r) r

open scoped Classical in
theorem bucket_mark (r : Fin 100000) (b : Fin 64) (y : EReal) :
    (if (bucket (F := Ideal) lk (ix1 r)).toInt = b.val then y else 0) = mark (row lk r) b * y := by
  obtain ⟨c, hc, hw⟩ := bucket_spec lk r
  unfold mark
  by_cases h : First (row lk r) b
  · rw [if_pos h, hw, hc.unique h, if_pos rfl, one_mul]
  · rw [if_neg h, hw, zero_mul, if_neg]
    intro e
    exact h ((Fin.ext (by exact_mod_cast e) : c = b) ▸ hc)

theorem scatter_list_at (x : FVec Ideal S64 .f32) (w : IVec S100000x1 32) (y : FVec Ideal S100000 .f32) (b : Fin 64) :
    Host.scatterAdd scatter_S64_S100000x1_S100000_n_0_0_1 x w y (ix1 b)
      = x (ix1 b) + ∑ n : Fin 100000, if (w (ix2 n 0)).toInt = b.val then (y (ix1 n) : EReal) else 0 :=
  scatter_list scatter_S64_S100000x1_S100000_n_0_0_1 rfl rfl rfl rfl x w y b

theorem scatter_table_at (x : FVec Ideal S64x128 .f32) (w : IVec S100000x1 32) (y : FVec Ideal S100000x128 .f32) (b : Fin 64) (d : Fin 128) :
    Host.scatterAdd scatter_S64x128_S100000x1_S100000x128_1_0_0_1 x w y (ix2 b d)
      = x (ix2 b d) + ∑ n : Fin 100000, if (w (ix2 n 0)).toInt = b.val then (y (ix2 n d) : EReal) else 0 :=
  scatter_table scatter_S64x128_S100000x1_S100000x128_1_0_0_1 rfl rfl rfl rfl x w y b d

theorem column (w : IVec S100000 32) (n : Fin 100000) : (broadcastInDim S100000x1 ![0] bcast_S100000_S100000x1_0 w) (ix2 n 0) = w (ix1 n) := by
  pointwise

theorem zeros (b : Fin 64) : (broadcastInDim S64 ![] bcast_S_S64 (constant (F := Ideal) S_ .f32 0x00000000#32) : FVec Ideal S64 .f32) (ix1 b) = (0 : EReal) :=
  ofBits_zero
theorem zeros_table (b : Fin 64) (d : Fin 128) :
    (broadcastInDim S64x128 ![] bcast_S_S64x128 (constant (F := Ideal) S_ .f32 0x00000000#32) : FVec Ideal S64x128 .f32) (ix2 b d) = (0 : EReal) :=
  ofBits_zero
theorem ones (n : Fin 100000) :
    (broadcastInDim S100000 ![] bcast_S_S100000 (constant (F := Ideal) S_ .f32 0x3F800000#32) : FVec Ideal S100000 .f32) (ix1 n) = (1 : EReal) :=
  ofBits_one

theorem tally_of (w : IVec S100000 32) (b : Fin 64) :
    Host.scatterAdd (F := Ideal) scatter_S64_S100000x1_S100000_n_0_0_1 (broadcastInDim S64 ![] bcast_S_S64 (constant S_ .f32 0x00000000#32)) (broadcastInDim S100000x1 ![0] bcast_S100000_S100000x1_0 w) (broadcastInDim S100000 ![] bcast_S_S100000 (constant S_ .f32 0x3F800000#32)) (ix1 b)
      = ∑ n : Fin 100000, if (w (ix1 n)).toInt = b.val then (1 : EReal) else 0 := by
  rw [scatter_list_at, zeros, zero_add]
  refine Finset.sum_congr rfl fun n _ => ?_
  rw [column, ones]

theorem segment_of (w : IVec S100000 32) (b : Fin 64) (d : Fin 128) :
    Host.scatterAdd (F := Ideal) scatter_S64x128_S100000x1_S100000x128_1_0_0_1 (broadcastInDim S64x128 ![] bcast_S_S64x128 (constant S_ .f32 0x00000000#32)) (broadcastInDim S100000x1 ![0] bcast_S100000_S100000x1_0 w) V (ix2 b d)
      = ∑ n : Fin 100000, if (w (ix1 n)).toInt = b.val then (V (ix2 n d) : EReal) else 0 := by
  rw [scatter_table_at, zeros_table, zero_add]
  refine Finset.sum_congr rfl fun n _ => ?_
  rw [column]

/-- How many rows fall in bucket `b`: the rows' marks, summed. -/
theorem tally_apply (b : Fin 64) : tally (F := Ideal) lk (ix1 b) = ∑ n : Fin 100000, mark (row lk n) b := by
  refine (tally_of (bucket lk) b).trans (Finset.sum_congr rfl fun n _ => ?_)
  rw [bucket_mark, mul_one]

/-- The sum of the value rows of bucket `b`. -/
theorem segment_apply (b : Fin 64) (d : Fin 128) :
    Ref.segment (F := Ideal) lk V (ix2 b d) = ∑ n : Fin 100000, mark (row lk n) b * (V (ix2 n d) : EReal) := by
  refine (segment_of V (bucket lk) b d).trans (Finset.sum_congr rfl fun n _ => ?_)
  rw [bucket_mark]

theorem sum_col_at (v : FVec Ideal S_ .f32) (d : Fin 128) :
    Host.reduceAdd (F := Ideal) V v reducesTo_S100000x128_S128_d0 h_S_ (ix1 d) = v (Shape.Idx.first h_S_) + ∑ n : Fin 100000, (V (ix2 n d) : EReal) :=
  sum_col V v reducesTo_S100000x128_S128_d0 h_S_ d

theorem grand_of (R : FVec Ideal S128 .f32) (d : Fin 128) :
    Host.divf R (broadcastInDim S128 ![] bcast_S_S128 (constant S_ .f32 0x47C35000#32)) (ix1 d) = Ideal.div (R (ix1 d)) (Ideal.ofBits .f32 0x47C35000#32) := by
  pointwise

theorem zero_at : (constant (F := Ideal) S_ .f32 0x00000000#32) (Shape.Idx.first h_S_) = (0 : EReal) := ofBits_zero

/-- The mean of the value rows. -/
theorem grand_apply (d : Fin 128) : grand (F := Ideal) V (ix1 d) = Ideal.div (∑ n : Fin 100000, (V (ix2 n d) : EReal)) ((100000 : ℝ) : EReal) := by
  refine (grand_of _ d).trans ?_
  rw [sum_col_at, zero_at, zero_add, ofBits_rows]

theorem proto_of (G : FVec Ideal S128 .f32) (T : FVec Ideal S64 .f32) (S : FVec Ideal S64x128 .f32) (b : Fin 64) (d : Fin 128) :
    select (broadcastInDim S64x128 ![0, 1] bcast_S64x1_S64x128_0_1 (broadcastInDim S64x1 ![0] bcast_S64_S64x1_0 (cmpf .oeq T (broadcastInDim S64 ![] bcast_S_S64 (constant S_ .f32 0x00000000#32))))) (broadcastInDim S64x128 ![0, 1] bcast_S1x128_S64x128_0_1 (broadcastInDim S1x128 ![1] bcast_S128_S1x128_1 G))
        (Host.divf S (broadcastInDim S64x128 ![0, 1] bcast_S64x1_S64x128_0_1 (broadcastInDim S64x1 ![0] bcast_S64_S64x1_0 (maximumf (broadcastInDim S64 ![] bcast_S_S64 (constant S_ .f32 0x3F800000#32)) T)))) (ix2 b d)
      = if (T (ix1 b) : EReal) = 0 then (G (ix1 d) : EReal) else Ideal.div (S (ix2 b d)) (max 1 (T (ix1 b))) := by
  pointwise

/-- A prototype's entry. -/
theorem proto_apply (b : Fin 64) (d : Fin 128) :
    proto (F := Ideal) lk V (ix2 b d)
      = if (tally (F := Ideal) lk (ix1 b) : EReal) = 0 then grand (F := Ideal) V (ix1 d)
        else Ideal.div (Ref.segment (F := Ideal) lk V (ix2 b d)) (max 1 (tally (F := Ideal) lk (ix1 b))) :=
  (congrFun ((proto.eq_1 lk V).trans (congrArg (select _ _) (means.eq_1 lk V))) (ix2 b d)).trans
    (proto_of (grand V) (tally lk) (Ref.segment lk V) b d)

theorem max_row_at (v : FVec Ideal S_ .f32) (r : Fin 100000) :
    Host.reduce (FloatOps.maximumf (F := Ideal) (φ := .f32)) q v reducesTo_S100000x64_S100000_d1 h_S_ (ix1 r)
      = Finset.univ.fold max (v (Shape.Idx.first h_S_)) (row q r) :=
  max_row q v reducesTo_S100000x64_S100000_d1 h_S_ r

theorem expo_of (R : FVec Ideal S100000 .f32) (r : Fin 100000) (b : Fin 64) :
    Host.exp (subf q (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) R)))) (ix2 r b)
      = Ideal.exp ((q (ix2 r b) : EReal) - max (Ideal.ofBits .f32 0xFF800000#32) (R (ix1 r))) := by
  pointwise

/-- A softmax weight before its division. -/
theorem expo_apply (r : Fin 100000) (b : Fin 64) :
    expo (F := Ideal) q (ix2 r b) = Ideal.exp ((q (ix2 r b) : EReal) - peak (row q r)) := by
  refine (expo_of q _ r b).trans ?_
  rw [max_row_at, bot_at, ofBits_bot, max_eq_right bot_le]
  rfl

/-- A softmax weight. -/
theorem probs_apply (r : Fin 100000) (b : Fin 64) :
    probs (F := Ideal) q (ix2 r b) = Ideal.div (expo (F := Ideal) q (ix2 r b)) (∑ x : Fin 64, (expo (F := Ideal) q (ix2 r x) : EReal)) := by
  unfold probs
  generalize expo (F := Ideal) q = E
  generalize hR : Host.reduceAdd (F := Ideal) E (constant S_ .f32 0x00000000#32) reducesTo_S100000x64_S100000_d1 h_S_ = R
  have e : R (ix1 r) = ∑ x : Fin 64, (E (ix2 r x) : EReal) := by
    rw [← hR, sum_row]
    show Ideal.ofBits .f32 0x00000000#32 + _ = _
    rw [ofBits_zero, zero_add]
  rw [← e]
  pointwise

/-- A row's entropy over the logarithm of 64. -/
theorem spread_apply (r : Fin 100000) :
    spread (F := Ideal) q (ix1 r)
      = Ideal.div (-∑ x : Fin 64, (probs (F := Ideal) q (ix2 r x) : EReal) * Ideal.log (max (Ideal.ofBits .f32 0x3089705F#32) (probs (F := Ideal) q (ix2 r x))))
          (Ideal.log ((64 : ℝ) : EReal)) := by
  unfold spread
  generalize hR : Host.reduceAdd (F := Ideal) _ (constant S_ .f32 0x00000000#32) reducesTo_S100000x64_S100000_d1 h_S_ = R
  have e : R (ix1 r) = ∑ x : Fin 64, (probs (F := Ideal) q (ix2 r x) : EReal) * Ideal.log (max (Ideal.ofBits .f32 0x3089705F#32) (probs (F := Ideal) q (ix2 r x))) := by
    rw [← hR, sum_row]
    show Ideal.ofBits .f32 0x00000000#32 + _ = _
    rw [ofBits_zero, zero_add]
    refine Finset.sum_congr rfl fun x _ => ?_
    unfold clipped
    generalize probs (F := Ideal) q = P
    pointwise
  rw [← e, ← ofBits_buckets]
  pointwise

theorem confidence_apply (r : Fin 100000) : confidence (F := Ideal) q (ix1 r) = 1 - (spread (F := Ideal) q (ix1 r) : EReal) := by
  unfold confidence
  generalize spread (F := Ideal) q = S
  pointwise

theorem output_apply (r : Fin 100000) (d : Fin 128) :
    output (F := Ideal) h V q lk W (ix2 r d)
      = (h (ix2 r d) : EReal) + (1 - confidence (F := Ideal) q (ix1 r))
          * ∑ x : Fin 128, (∑ b : Fin 64, (probs (F := Ideal) q (ix2 r b) : EReal) * proto (F := Ideal) lk V (ix2 b x)) * W (ix2 d x) := by
  unfold output recovered
  generalize confidence (F := Ideal) q = C
  generalize probs (F := Ideal) q = P
  generalize proto (F := Ideal) lk V = T
  pointwise

end Cert.Refine.RefRead

end
-- ==== Proof.Value.Pre.lean ====
module

public import proofs.«01_k».proof.Proof.Value.RefRead
public import proofs.«01_k».proof.Pre_clip_idle
public import Idealize.ShloMosaic.Lib.ReduceAll

/-! What the precondition says of the arguments: the value rows, the projection and the query logits are finite, and no
softmax weight lies below the clip's threshold. -/

@[expose] public section

set_option maxRecDepth 16384

noncomputable section

namespace Cert.Refine.Pre

open Idealize.ShloMosaic Cert.Refine.Spec

section Split
variable {F : FTy → Type} [FloatOps F] [Named F] [hP : Cert.Pre_clip_idle.Facts]
open Cert.Pre_clip_idle Cert.Pre_clip_idle.Facts

/-- Whether every entry is finite. -/
def finiteTall (V : FVec F S100000x128 .f32) : IVec S_ 1 :=
  Host.reduce IntOp.andi (cmpf .olt (Host.absf V) (broadcastInDim S100000x128 ![] bcast_S_S100000x128 (constant S_ .f32 0x7F800000#32))) (constantI S_ 1 1#1) reducesTo_S100000x128_S_d0_1 h_S_
def finiteSquare (W : FVec F S128x128 .f32) : IVec S_ 1 :=
  Host.reduce IntOp.andi (cmpf .olt (Host.absf W) (broadcastInDim S128x128 ![] bcast_S_S128x128 (constant S_ .f32 0x7F800000#32))) (constantI S_ 1 1#1) reducesTo_S128x128_S_d0_1 h_S_
def finiteLogits (q : FVec F S100000x64 .f32) : IVec S_ 1 :=
  Host.reduce IntOp.andi (cmpf .olt (Host.absf q) (broadcastInDim S100000x64 ![] bcast_S_S100000x64 (constant S_ .f32 0x7F800000#32))) (constantI S_ 1 1#1) reducesTo_S100000x64_S_d0_1 h_S_
/-- Whether every entry is at least the clip's threshold. -/
def aboveClip (p : FVec F S100000x64 .f32) : IVec S_ 1 :=
  Host.reduce IntOp.andi (cmpf .oge p (broadcastInDim S100000x64 ![] bcast_S_S100000x64 (constant S_ .f32 0x3089705F#32))) (constantI S_ 1 1#1) reducesTo_S100000x64_S_d0_1 h_S_

/-- The precondition is the conjunction of the four tests. -/
theorem split (h V : FVec F S100000x128 .f32) (q lk : FVec F S100000x64 .f32) (W : FVec F S128x128 .f32) :
    Cert.Pre_clip_idle.fn h V q lk W = andi (andi (andi (finiteTall V) (finiteSquare W)) (finiteLogits q)) (aboveClip (Ref.probs q)) := by
  with_reducible_and_instances
    delta Cert.Pre_clip_idle.fn Cert.Pre_clip_idle.fn_part1 finiteTall finiteSquare finiteLogits aboveClip Ref.probs Ref.expo
  rfl
end Split

theorem bits_top : Ideal.ofBits .f32 0x7F800000#32 = (⊤ : EReal) := by
  simp [Ideal.ofBits, Ideal.ieee]

/-- An extended real whose absolute value is below infinity is a real. -/
theorem real_of_abs (x : EReal) (h : Ideal.cmp .olt (max x (-x)) (Ideal.ofBits .f32 0x7F800000#32) = 1#1) : ∃ a : ℝ, x = (a : EReal) := by
  have h' : max x (-x) < ⊤ := by
    by_contra hc
    have : Ideal.cmp .olt (max x (-x)) (Ideal.ofBits .f32 0x7F800000#32) = 0#1 := by
      rw [bits_top]; simp [Ideal.cmp, hc]
    rw [this] at h
    exact absurd h (by decide)
  induction x with
  | bot => simp at h'
  | top => simp at h'
  | coe a => exact ⟨a, rfl⟩

theorem le_of_oge (x y : EReal) (h : Ideal.cmp .oge x y = 1#1) : y ≤ x := by
  by_contra hc
  have : Ideal.cmp .oge x y = 0#1 := by simp [Ideal.cmp, hc]
  rw [this] at h
  exact absurd h (by decide)

section Read
variable [hP : Cert.Pre_clip_idle.Facts]
open Cert.Pre_clip_idle Cert.Pre_clip_idle.Facts

instance : Subsingleton S_.Idx := ⟨fun a b => funext fun k => k.elim0⟩

theorem tall_real (V : FVec Ideal S100000x128 .f32) (j : S_.Idx) (e : finiteTall V j = 1#1) (i : S100000x128.Idx) : ∃ a : ℝ, V i = (a : EReal) :=
  real_of_abs (V i) (Host.reduce_andi_all _ _ _ _ j e i)
theorem square_real (W : FVec Ideal S128x128 .f32) (j : S_.Idx) (e : finiteSquare W j = 1#1) (i : S128x128.Idx) : ∃ a : ℝ, W i = (a : EReal) :=
  real_of_abs (W i) (Host.reduce_andi_all _ _ _ _ j e i)
theorem logits_real (q : FVec Ideal S100000x64 .f32) (j : S_.Idx) (e : finiteLogits q j = 1#1) (i : S100000x64.Idx) : ∃ a : ℝ, q i = (a : EReal) :=
  real_of_abs (q i) (Host.reduce_andi_all _ _ _ _ j e i)
theorem above (p : FVec Ideal S100000x64 .f32) (j : S_.Idx) (e : aboveClip p j = 1#1) (i : S100000x64.Idx) : Ideal.ofBits .f32 0x3089705F#32 ≤ p i :=
  le_of_oge (p i) _ (Host.reduce_andi_all _ _ _ _ j e i)

/-- What the precondition says. -/
theorem reads (h V : FVec Ideal S100000x128 .f32) (q lk : FVec Ideal S100000x64 .f32) (W : FVec Ideal S128x128 .f32) (j : S_.Idx)
    (e : Cert.Pre_clip_idle.fn (F := Ideal) h V q lk W j = 1#1) :
    (∀ i, ∃ a : ℝ, V i = (a : EReal)) ∧ (∀ i, ∃ a : ℝ, W i = (a : EReal)) ∧ (∀ i, ∃ a : ℝ, q i = (a : EReal)) ∧ ∀ i, Ideal.ofBits .f32 0x3089705F#32 ≤ Ref.probs q i := by
  rw [split] at e
  obtain ⟨e1, e4⟩ := IntOp.andi_eq_one.1 e
  obtain ⟨e2, e3⟩ := IntOp.andi_eq_one.1 e1
  obtain ⟨e0, e1'⟩ := IntOp.andi_eq_one.1 e2
  exact ⟨tall_real V j e0, square_real W j e1', logits_real q j e3, above (Ref.probs q) j e4⟩
end Read

end Cert.Refine.Pre

end
-- ==== Proof.Value.Agree.lean ====
module

public import proofs.«01_k».proof.Proof.Value.Arrays
public import proofs.«01_k».proof.Proof.Value.Pre

/-! The kernel's results are the reference's where the precondition holds. -/

@[expose] public section

set_option maxRecDepth 16384

noncomputable section

namespace Cert.Refine.Agree

open Idealize.ShloMosaic Idealize.ShloMosaic.TcCoe Cert.KernelIdeal Cert.KernelIdeal.Gen Cert.Refine.Spec Cert.Refine.Payload Cert.Refine.Collected Cert.Refine.Arrays

variable (m : (ℓ : Loc nD τ sig) → Buf (Elt Ideal) ℓ) (c : Dev nD)

/-- A sum divided by a hundred thousand is the sum times its reciprocal. -/
theorem div_rows (x : EReal) : Ideal.div x ((100000 : ℝ) : EReal) = x * ((1 / 100000 : ℝ) : EReal) :=
  Ideal.div_coe (by norm_num) x

/-- The reference's prototypes are the kernel's. -/
theorem prototypes (b : Fin 64) (d : Fin 128) : Ref.proto (K m c) (Vl m c) (ix2 b d) = prototype m c b d := by
  rw [RefRead.proto_apply, RefRead.tally_apply, RefRead.segment_apply, RefRead.grand_apply, div_rows]
  rfl

/-- A prototype of finite value rows is finite. -/
theorem prototype_real (hV : ∀ i, ∃ a : ℝ, Vl m c i = (a : EReal)) (b : Fin 64) (d : Fin 128) : ∃ T : ℝ, prototype m c b d = (T : EReal) := by
  choose y hy using fun n : Fin 100000 => hV (ix2 n d)
  obtain ⟨T, hT⟩ := Entropy.proto_real (fun n => row (K m c) n) y b
  refine ⟨T, Eq.trans ?_ hT⟩
  unfold prototype
  simp only [hy]

/-- A row's gate and weights are real, and the reference's confidence and weights are those. -/
theorem gates (hQ : ∀ i, ∃ a : ℝ, Q m c i = (a : EReal)) (hP : ∀ i, Ideal.ofBits .f32 0x3089705F#32 ≤ Ref.probs (Q m c) i) (r : Fin 100000) :
    ∃ (g : ℝ) (p : Fin 64 → ℝ), gate (row (Q m c) r) = (g : EReal) ∧ Ref.confidence (Q m c) (ix1 r) = 1 - (g : EReal)
      ∧ (∀ k, weight (row (Q m c) r) k * Ideal.div 1 (total (row (Q m c) r)) = (p k : EReal)) ∧ ∀ k, Ref.probs (Q m c) (ix2 r k) = (p k : EReal) := by
  choose x hx using fun k : Fin 64 => hQ (ix2 r k)
  obtain ⟨cc, _, hcc⟩ := RefRead.ofBits_clip
  have hE : ∀ k, Ref.expo (Q m c) (ix2 r k) = weight (row (Q m c) r) k := fun k => RefRead.expo_apply (Q m c) r k
  obtain ⟨g, p, h1, h2, h3, h4⟩ := Entropy.gate_real x cc (row (Q m c) r) (weight (row (Q m c) r)) (fun k => Ref.probs (Q m c) (ix2 r k))
    (funext hx) (fun k => rfl)
    (fun k => (RefRead.probs_apply (Q m c) r k).trans (by rw [hE, Finset.sum_congr rfl fun j _ => hE j]))
    (fun k => hcc ▸ hP (ix2 r k))
  refine ⟨g, p, h3, ?_, h2, h1⟩
  rw [RefRead.confidence_apply, RefRead.spread_apply, hcc]
  exact congrArg (1 - ·) h4

/-- The second result. -/
theorem confidences (hQ : ∀ i, ∃ a : ℝ, Q m c i = (a : EReal)) (hP : ∀ i, Ideal.ofBits .f32 0x3089705F#32 ≤ Ref.probs (Q m c) i) :
    Ref.confidence (Q m c) = confidentList m c := by
  funext i
  obtain ⟨r, rfl⟩ : ∃ r : Fin 100000, i = ix1 r := ⟨i 0, eq_ix1 i⟩
  obtain ⟨g, p, h1, h2, _, _⟩ := gates m c hQ hP r
  exact h2.trans (congrArg (1 - ·) h1.symm)

/-- The first result. -/
theorem outputs (hV : ∀ i, ∃ a : ℝ, Vl m c i = (a : EReal)) (hW : ∀ i, ∃ a : ℝ, W m c i = (a : EReal))
    (hQ : ∀ i, ∃ a : ℝ, Q m c i = (a : EReal)) (hP : ∀ i, Ideal.ofBits .f32 0x3089705F#32 ≤ Ref.probs (Q m c) i) :
    Ref.output (H m c) (Vl m c) (Q m c) (K m c) (W m c) = recoveredAll m c := by
  funext i
  obtain ⟨r, d, rfl⟩ : ∃ (r : Fin 100000) (d : Fin 128), i = ix2 r d := ⟨i 0, i 1, eq_ix2 i⟩
  obtain ⟨g, p, h1, h2, h3, h4⟩ := gates m c hQ hP r
  choose T hT using prototype_real m c hV
  choose w hw using fun x : Fin 128 => hW (ix2 d x)
  refine (RefRead.output_apply (K m c) (Q m c) (Vl m c) (H m c) (W m c) r d).trans ?_
  show _ = recoveredAt m c r d
  unfold recoveredAt
  rw [h1, h2, Entropy.one_sub_one_sub]
  refine congrArg _ (congrArg _ ?_)
  have eL : (∑ x : Fin 128, (∑ b : Fin 64, Ref.probs (Q m c) (ix2 r b) * Ref.proto (K m c) (Vl m c) (ix2 b x)) * W m c (ix2 d x))
      = ∑ x : Fin 128, (∑ b : Fin 64, ((p b : ℝ) : EReal) * ((T b x : ℝ) : EReal)) * ((w x : ℝ) : EReal) :=
    Finset.sum_congr rfl fun x _ => congrArg₂ _ (Finset.sum_congr rfl fun b _ => congrArg₂ _ (h4 b) ((prototypes m c b x).trans (hT b x))) (hw x)
  have eR : (∑ b : Fin 64, weight (row (Q m c) r) b * Ideal.div 1 (total (row (Q m c) r)) * ((protoAll m c : FVec Ideal S64x128 .f32) (ix2 b d) : EReal))
      = ∑ b : Fin 64, ((p b : ℝ) : EReal) * ∑ x : Fin 128, ((T b x : ℝ) : EReal) * ((w x : ℝ) : EReal) :=
    Finset.sum_congr rfl fun b _ => congrArg₂ _ (h3 b) ((protoAll_apply m c b d).trans (Finset.sum_congr rfl fun x _ => congrArg₂ _ (hT b x) (hw x)))
  exact eL.trans ((Entropy.reassoc p T w).trans eR.symm)

end Cert.Refine.Agree

end
-- ==== Proof.Two.Points.lean ====
module

public import proofs.«01_k».proof.Proof.Gen.PlainIdeal.Regions
public import proofs.«01_k».proof.Proof.Gen.PlainIdeal.Skeleton
public import proofs.«01_k».proof.Proof.Gen.PlainIdeal.Points
public import Idealize.ShloMosaic.Lib.Pipeline.FrameBody
public import Idealize.ShloMosaic.Lib.Pipeline.FrameTail
public import Idealize.ShloMosaic.Lib.Pipeline.TableIdle
public import Idealize.ShloMosaic.Lib.Ring
public import Idealize.ShloMosaic.Lib.Tactic
public import Idealize.ShloMosaic.Lib.VecWindow
public import Idealize.ShloMosaic.Lib.WholeRead

/-! The two calls' grids of twenty-five points: which conditional of a body is taken at a point, which windows are
written, the blocks the windows read, and the names of the memrefs the bodies are handed. -/

@[expose] public section

set_option maxRecDepth 16384

noncomputable section

namespace Cert.Two

open Cert.PlainIdeal Cert.PlainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## The conditionals -/

/-- The condition under which the first call starts its sums and counts. -/
abbrev starts (i : grid0.Coords) : Prop := k0_cond1 i = 1#1
/-- The condition under which the first call adds to its sums and counts. -/
abbrev adds (i : grid0.Coords) : Prop := k0_cond2 i = 1#1
/-- The condition under which the second call forms the projected prototypes. -/
abbrev forms (i : grid1.Coords) : Prop :=
  (Scalar.cmpi .ne (Scalar.extui (Scalar.cmpi .eq (BitVec.ofNat 32 (i 0).val) 0#32)) 0#32) = 1#1

/-- The sums and counts start at the first point only. -/
theorem starts_iff : ∀ t : Fin cfg0.N, starts (grid0.coords t) ↔ t.val = 0 :=
  (by decide +kernel : ∀ t : Fin grid0.N, starts (grid0.coords t) ↔ t.val = 0)
/-- They are added to at every later point. -/
theorem adds_iff : ∀ t : Fin cfg0.N, adds (grid0.coords t) ↔ t.val ≠ 0 :=
  (by decide +kernel : ∀ t : Fin grid0.N, adds (grid0.coords t) ↔ t.val ≠ 0)
/-- The projected prototypes are formed at the first point only. -/
theorem forms_iff : ∀ t : Fin cfg1.N, forms (grid1.coords t) ↔ t.val = 0 :=
  (by decide +kernel : ∀ t : Fin grid1.N, forms (grid1.coords t) ↔ t.val = 0)

/-- The first call writes its sums and its counts at every point. -/
theorem live_sums : ∀ t : Fin cfg0.N, cfg0.idle 2 (grid0.coords t) = false := by decide +kernel
theorem live_counts : ∀ t : Fin cfg0.N, cfg0.idle 3 (grid0.coords t) = false := by decide +kernel
theorem live_logits (t : Fin cfg0.N) : cfg0.idle 0 (grid0.coords t) = false := rfl
theorem live_rows (t : Fin cfg0.N) : cfg0.idle 1 (grid0.coords t) = false := rfl
/-- After the first point the buffers of the sums and of the counts hold what the point before left. -/
theorem kept_sums : ∀ t : Fin cfg0.N, t.val ≠ 0 → cfg0.fresh 2 t.val = false := by decide +kernel
theorem kept_counts : ∀ t : Fin cfg0.N, t.val ≠ 0 → cfg0.fresh 3 t.val = false := by decide +kernel

/-! ## The memrefs -/

/-- The staging memref of each window of the first call at a point, and that it is a whole buffer. -/
abbrev a0 (t : Fin cfg0.N) : Memref sig .tc .vmem S4000x64 .f32 := win0_0.stage (cfg0.slots t 0)
abbrev ha0 (t : Fin cfg0.N) : (a0 t).IsWhole := hstage0_0 ((cfg0.slots t 0).cast nbuf0_0)
abbrev a1 (t : Fin cfg0.N) : Memref sig .tc .vmem S4000x128 .f32 := win0_1.stage (cfg0.slots t 1)
abbrev ha1 (t : Fin cfg0.N) : (a1 t).IsWhole := hstage0_1 ((cfg0.slots t 1).cast nbuf0_1)
abbrev a2 (t : Fin cfg0.N) : Memref sig .tc .vmem S64x128 .f32 := win0_2.stage (cfg0.slots t 2)
abbrev ha2 (t : Fin cfg0.N) : (a2 t).IsWhole := hstage0_2 ((cfg0.slots t 2).cast nbuf0_2)
abbrev a3 (t : Fin cfg0.N) : Memref sig .tc .vmem S64x128 .f32 := win0_3.stage (cfg0.slots t 3)
abbrev ha3 (t : Fin cfg0.N) : (a3 t).IsWhole := hstage0_3 ((cfg0.slots t 3).cast nbuf0_3)
/-- The staging memref of each window of the second call at a point, and that it is a whole buffer. -/
abbrev b0 (t : Fin cfg1.N) : Memref sig .tc .vmem S64x128 .f32 := win1_0.stage (cfg1.slots t 0)
abbrev hb0 (t : Fin cfg1.N) : (b0 t).IsWhole := hstage1_0 ((cfg1.slots t 0).cast nbuf1_0)
abbrev b1 (t : Fin cfg1.N) : Memref sig .tc .vmem S64x128 .f32 := win1_1.stage (cfg1.slots t 1)
abbrev hb1 (t : Fin cfg1.N) : (b1 t).IsWhole := hstage1_1 ((cfg1.slots t 1).cast nbuf1_1)
abbrev b2 (t : Fin cfg1.N) : Memref sig .tc .vmem S128x128 .f32 := win1_2.stage (cfg1.slots t 2)
abbrev hb2 (t : Fin cfg1.N) : (b2 t).IsWhole := hstage1_2 ((cfg1.slots t 2).cast nbuf1_2)
abbrev b3 (t : Fin cfg1.N) : Memref sig .tc .vmem S4000x64 .f32 := win1_3.stage (cfg1.slots t 3)
abbrev hb3 (t : Fin cfg1.N) : (b3 t).IsWhole := hstage1_3 ((cfg1.slots t 3).cast nbuf1_3)
abbrev b4 (t : Fin cfg1.N) : Memref sig .tc .vmem S4000x128 .f32 := win1_4.stage (cfg1.slots t 4)
abbrev hb4 (t : Fin cfg1.N) : (b4 t).IsWhole := hstage1_4 ((cfg1.slots t 4).cast nbuf1_4)
abbrev b5 (t : Fin cfg1.N) : Memref sig .tc .vmem S4000x128 .f32 := win1_5.stage (cfg1.slots t 5)
abbrev hb5 (t : Fin cfg1.N) : (b5 t).IsWhole := hstage1_5 ((cfg1.slots t 5).cast nbuf1_5)
abbrev b6 (t : Fin cfg1.N) : Memref sig .tc .vmem S4000x1 .f32 := win1_6.stage (cfg1.slots t 6)
abbrev hb6 (t : Fin cfg1.N) : (b6 t).IsWhole := hstage1_6 ((cfg1.slots t 6).cast nbuf1_6)
/-- The second call's scratch buffer: the projected prototypes. -/
abbrev projM : Memref sig .tc .vmem S64x128 .f32 := Memref.whole cc1_scratch0

/-! ## The blocks -/

variable (V : Dev nD → Valuation τ sig (Elt F))

/-- Window `w`'s block of the first call at a point, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Window `w`'s block of the second call at a point, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds its block at every point, for any proof data over the arrays as found. -/

theorem reads0_0 {c : Dev nD} (dat : Dat τ (Elt F) Unit ℕ (UR sig nD τ) ℕ cfg0 c)
    (hA : dat.A 0 = V c (Pipeline.arrRef spec0 0)) (hafter : ∀ t, dat.after 0 t = blk0 V c 0 t) (t : Fin cfg0.N) (d) :
    dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem reads0_1 {c : Dev nD} (dat : Dat τ (Elt F) Unit ℕ (UR sig nD τ) ℕ cfg0 c)
    (hA : dat.A 1 = V c (Pipeline.arrRef spec0 1)) (hafter : ∀ t, dat.after 1 t = blk0 V c 1 t) (t : Fin cfg0.N) (d) :
    dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem reads1_0 {c : Dev nD} (dat : Dat τ (Elt F) Unit ℕ (UR sig nD τ) ℕ cfg1 c)
    (hA : dat.A 0 = V c (Pipeline.arrRef spec1 0)) (hafter : ∀ t, dat.after 0 t = blk1 V c 0 t) (t : Fin cfg1.N) (d) :
    dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem reads1_1 {c : Dev nD} (dat : Dat τ (Elt F) Unit ℕ (UR sig nD τ) ℕ cfg1 c)
    (hA : dat.A 1 = V c (Pipeline.arrRef spec1 1)) (hafter : ∀ t, dat.after 1 t = blk1 V c 1 t) (t : Fin cfg1.N) (d) :
    dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem reads1_2 {c : Dev nD} (dat : Dat τ (Elt F) Unit ℕ (UR sig nD τ) ℕ cfg1 c)
    (hA : dat.A 2 = V c (Pipeline.arrRef spec1 2)) (hafter : ∀ t, dat.after 2 t = blk1 V c 2 t) (t : Fin cfg1.N) (d) :
    dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem reads1_3 {c : Dev nD} (dat : Dat τ (Elt F) Unit ℕ (UR sig nD τ) ℕ cfg1 c)
    (hA : dat.A 3 = V c (Pipeline.arrRef spec1 3)) (hafter : ∀ t, dat.after 3 t = blk1 V c 3 t) (t : Fin cfg1.N) (d) :
    dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem reads1_4 {c : Dev nD} (dat : Dat τ (Elt F) Unit ℕ (UR sig nD τ) ℕ cfg1 c)
    (hA : dat.A 4 = V c (Pipeline.arrRef spec1 4)) (hafter : ∀ t, dat.after 4 t = blk1 V c 4 t) (t : Fin cfg1.N) (d) :
    dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## Whole loads -/

section Loads
variable {m64 : Memref sig .tc .vmem S4000x64 .f32} (h64 : m64.IsWhole) {m128 : Memref sig .tc .vmem S4000x128 .f32} (h128 : m128.IsWhole)
  {mA : Memref sig .tc .vmem S64x128 .f32} (hA : mA.IsWhole) {mW : Memref sig .tc .vmem S128x128 .f32} (hW : mW.IsWhole)

/-- A load of a whole buffer held at `x` reads `x`: blocks of logits, blocks of rows, sums and counts, projections. -/
theorem whole64 (h) (x : Vec F S4000x64 .f32) :
    View.readAt (Elt F) m64.view (Rect.unit (s := S4000x64) ![0, 0] S4000x64.size h).toLoadRect (h64.unread x) = x := by
  rw [View.readAt_full, h64.read_unread]
theorem whole128 (h) (x : Vec F S4000x128 .f32) :
    View.readAt (Elt F) m128.view (Rect.unit (s := S4000x128) ![0, 0] S4000x128.size h).toLoadRect (h128.unread x) = x := by
  rw [View.readAt_full, h128.read_unread]
theorem wholeA (h) (x : Vec F S64x128 .f32) :
    View.readAt (Elt F) mA.view (Rect.unit (s := S64x128) ![0, 0] S64x128.size h).toLoadRect (hA.unread x) = x := by
  rw [View.readAt_full, hA.read_unread]
theorem wholeW (h) (x : Vec F S128x128 .f32) :
    View.readAt (Elt F) mW.view (Rect.unit (s := S128x128) ![0, 0] S128x128.size h).toLoadRect (hW.unread x) = x := by
  rw [View.readAt_full, hW.read_unread]
end Loads

end Cert.Two

end
-- ==== Proof.Two.Collect.lean ====
module

public import proofs.«01_k».proof.Proof.Two.Points

/-! The first call's body at a point, run: at the first point it starts the bucket sums and counts with its block's, at
every later point it adds its block's to them. -/

@[expose] public section

set_option maxRecDepth 16384

noncomputable section

namespace Cert.Two

open Cert.PlainIdeal Cert.PlainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S4000x64 .f32) (harg1 : arg1.IsWhole)
  (arg2 : Memref sig .tc .vmem S4000x128 .f32) (harg2 : arg2.IsWhole)
  (arg3 : Memref sig .tc .vmem S64x128 .f32) (harg3 : arg3.IsWhole)
  (arg4 : Memref sig .tc .vmem S64x128 .f32) (harg4 : arg4.IsWhole)
  (x0 : Vec F S4000x64 .f32) (x1 : Vec F S4000x128 .f32)

set_option maxHeartbeats 1000000 in
/-- The first point: whatever the two results hold, they end at the block's sums and counts. -/
theorem run_start (hc0 : starts i) (hc1 : ¬adds i) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k0_pay2 x0 x1) ∗ owns (c : Thread nD τ) arg4 fullShare (k0_pay3 x0)) -∗ K ⟨⟩))
      ⊢ wp frame (wpE (defs₀ (F := F)) Variants.none c none) E (cc0__bucket_kernel i arg1 harg1 arg2 harg2 arg3 harg3 arg4 harg4) K := by
  simp only [cc0__bucket_kernel_eq_skeleton]; unfold cc0__bucket_kernel_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (View.read_writes_full arg3.view _ _ _ _).trans (congr (congrArg k0_pay2 (whole64 harg1 _ x0)) (whole128 harg2 _ x1))
  iexists _; isplitr; swap; · iexact H3
  ipureintro
  exact (View.read_writes_full arg4.view _ _ _ _).trans (congrArg k0_pay3 (whole64 harg1 _ x0))

set_option maxHeartbeats 1000000 in
/-- A later point: the block's sums and counts are added to what the two results hold. -/
theorem run_add (hc0 : ¬starts i) (hc1 : adds i) (x2 x3 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (iprop(owns (c : Thread nD τ) arg1 fullShare x0 ∗ owns (c : Thread nD τ) arg2 fullShare x1 ∗ owns (c : Thread nD τ) arg3 fullShare (k0_pay4 x0 x1 x2) ∗ owns (c : Thread nD τ) arg4 fullShare (k0_pay5 x0 x3)) -∗ K ⟨⟩))
      ⊢ wp frame (wpE (defs₀ (F := F)) Variants.none c none) E (cc0__bucket_kernel i arg1 harg1 arg2 harg2 arg3 harg3 arg4 harg4) K := by
  simp only [cc0__bucket_kernel_eq_skeleton]; unfold cc0__bucket_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (View.read_writes_full arg3.view _ _ _ _).trans (congr (congr (congrArg k0_pay4 (whole64 harg1 _ x0)) (whole128 harg2 _ x1)) (wholeA harg3 _ x2))
  iexists _; isplitr; swap; · iexact H3
  ipureintro
  exact (View.read_writes_full arg4.view _ _ _ _).trans (congr (congrArg k0_pay5 (whole64 harg1 _ x0)) (wholeA harg4 _ x3))

end Cert.Two

end
-- ==== Proof.Two.Recover.lean ====
module

public import proofs.«01_k».proof.Proof.Two.Points

/-! The second call's body at a point, run: at the first point it forms the projected prototypes, and at every point it
recovers a block of rows and its confidences from them. -/

@[expose] public section

set_option maxRecDepth 16384

noncomputable section

namespace Cert.Two

open Cert.PlainIdeal Cert.PlainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid1.Coords)
  (arg1 : Memref sig .tc .vmem S64x128 .f32) (harg1 : arg1.IsWhole)
  (arg2 : Memref sig .tc .vmem S64x128 .f32) (harg2 : arg2.IsWhole)
  (arg3 : Memref sig .tc .vmem S128x128 .f32) (harg3 : arg3.IsWhole)
  (arg4 : Memref sig .tc .vmem S4000x64 .f32) (harg4 : arg4.IsWhole)
  (arg5 : Memref sig .tc .vmem S4000x128 .f32) (harg5 : arg5.IsWhole)
  (arg6 : Memref sig .tc .vmem S4000x128 .f32) (harg6 : arg6.IsWhole)
  (arg7 : Memref sig .tc .vmem S4000x1 .f32) (harg7 : arg7.IsWhole)
  (arg8 : Memref sig .tc .vmem S64x128 .f32) (harg8 : arg8.IsWhole)
  (x0 x1 : Vec F S64x128 .f32) (x2 : Vec F S128x128 .f32) (x3 : Vec F S4000x64 .f32) (x4 : Vec F S4000x128 .f32)

set_option maxHeartbeats 1000000 in
/-- The first point: the projected prototypes are formed of the sums `x0`, the counts `x1` and the projection `x2`. -/
theorem run_form (hc : forms i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay4 x3 (k1_pay1 x1 x0 x2) x4) ∗ owns (c : Thread nD τ) arg7 fullShare (k1_pay5 x3) ∗ owns (c : Thread nD τ) arg8 fullShare (k1_pay1 x1 x0 x2)) -∗ K ⟨⟩))
      ⊢ wp frame (wpE (defs₀ (F := F)) Variants.none c none) E (cc1__recovery_kernel i arg1 harg1 arg2 harg2 arg3 harg3 arg4 harg4 arg5 harg5 arg6 harg6 arg7 harg7 arg8 harg8) K := by
  simp only [cc1__recovery_kernel_eq_skeleton]; unfold cc1__recovery_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  have hp := congr (congr (congrArg k1_pay1 (wholeA harg2 inb_S64x128_S64x128_0_0 x1)) (wholeA harg1 inb_S64x128_S64x128_0_0 x0)) (wholeW harg3 inb_S128x128_S128x128_0_0 x2)
  isplitl [H5]
  · iexists _; isplitr; swap; · iexact H5
    ipureintro
    exact (View.read_writes_full arg6.view _ _ _ _).trans
      (congr (congr (congrArg k1_pay4 (whole64 harg4 _ x3)) ((View.readCov_full arg8.view _ _ _ _).trans hp)) (whole128 harg5 _ x4))
  isplitl [H6]
  · iexists _; isplitr; swap; · iexact H6
    ipureintro
    exact (View.read_writes_full arg7.view _ _ _ _).trans (congrArg k1_pay5 (whole64 harg4 _ x3))
  iexists _; isplitr; swap; · iexact H7
  ipureintro
  exact (View.read_writes_full arg8.view _ _ _ _).trans hp

set_option maxHeartbeats 1000000 in
/-- A later point: the projected prototypes are read as the first point left them. -/
theorem run_use (hc : ¬forms i) (x7 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay4 x3 x7 x4) ∗ owns (c : Thread nD τ) arg7 fullShare (k1_pay5 x3) ∗ owns (c : Thread nD τ) arg8 fullShare x7) -∗ K ⟨⟩))
      ⊢ wp frame (wpE (defs₀ (F := F)) Variants.none c none) E (cc1__recovery_kernel i arg1 harg1 arg2 harg2 arg3 harg3 arg4 harg4 arg5 harg5 arg6 harg6 arg7 harg7 arg8 harg8) K := by
  simp only [cc1__recovery_kernel_eq_skeleton]; unfold cc1__recovery_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hf7
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    exact (View.read_writes_full arg6.view _ _ _ _).trans
      (congr (congr (congrArg k1_pay4 (whole64 harg4 _ x3)) (wholeA harg8 _ x7)) (whole128 harg5 _ x4))
  isplitl [H6]
  · iexists _; isplitr; swap; · iexact H6
    ipureintro
    exact (View.read_writes_full arg7.view _ _ _ _).trans (congrArg k1_pay5 (whole64 harg4 _ x3))
  iexists _; isplitr; · ipureintro; exact harg8.read_unread _
  iexact H7

end Cert.Two

end
-- ==== Proof.Two.Data.lean ====
module

public import proofs.«01_k».proof.Proof.Two.Collect
public import proofs.«01_k».proof.Proof.Two.Recover

/-! What each call does to its windows, point by point: the sums and counts of the first call, the projected prototypes and
the recovered blocks of the second, and the body of either call at a generic point. -/

@[expose] public section

set_option maxRecDepth 16384

noncomputable section

namespace Cert.Two

open Cert.PlainIdeal Cert.PlainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-! ## The first call -/

/-- The bucket sums after the points up to `n`. -/
def sumsTo (c : Dev nD) : ℕ → Vec F S64x128 .f32
  | 0 => k0_pay2 (blk0 V c 0 ⟨0, by decide⟩) (blk0 V c 1 ⟨0, by decide⟩)
  | n + 1 => if h : n + 1 < cfg0.N then k0_pay4 (blk0 V c 0 ⟨n + 1, h⟩) (blk0 V c 1 ⟨n + 1, h⟩) (sumsTo c n) else sumsTo c n

/-- The bucket counts after the points up to `n`. -/
def countsTo (c : Dev nD) : ℕ → Vec F S64x128 .f32
  | 0 => k0_pay3 (blk0 V c 0 ⟨0, by decide⟩)
  | n + 1 => if h : n + 1 < cfg0.N then k0_pay5 (blk0 V c 0 ⟨n + 1, h⟩) (countsTo c n) else countsTo c n

theorem sumsTo_zero (c : Dev nD) (t : Fin cfg0.N) (h : t.val = 0) : sumsTo V c t.val = k0_pay2 (blk0 V c 0 t) (blk0 V c 1 t) := by
  obtain rfl : t = ⟨0, by decide⟩ := Fin.ext h
  rw [sumsTo]
theorem countsTo_zero (c : Dev nD) (t : Fin cfg0.N) (h : t.val = 0) : countsTo V c t.val = k0_pay3 (blk0 V c 0 t) := by
  obtain rfl : t = ⟨0, by decide⟩ := Fin.ext h
  rw [countsTo]
theorem sumsTo_later (c : Dev nD) (t : Fin cfg0.N) (h : t.val ≠ 0) :
    sumsTo V c t.val = k0_pay4 (blk0 V c 0 t) (blk0 V c 1 t) (sumsTo V c (t.val - 1)) := by
  obtain ⟨n, hn⟩ := t
  obtain _ | n := n
  · exact absurd rfl h
  · show sumsTo V c (n + 1) = _
    rw [sumsTo, dif_pos hn]
    rfl
theorem countsTo_later (c : Dev nD) (t : Fin cfg0.N) (h : t.val ≠ 0) :
    countsTo V c t.val = k0_pay5 (blk0 V c 0 t) (countsTo V c (t.val - 1)) := by
  obtain ⟨n, hn⟩ := t
  obtain _ | n := n
  · exact absurd rfl h
  · show countsTo V c (n + 1) = _
    rw [countsTo, dif_pos hn]
    rfl

/-- The first call's proof data over its arrays as found. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => sumsTo V c t.val
    | ⟨3, _⟩ => countsTo V c t.val
  Φ _ := Pipeline.ΦA spec0 c
  q _ := fullShare
  owed _ := 0

theorem A0_eq (c : Dev nD) (w : Fin cfg0.W) : (dat0 V c).A w = V c (Pipeline.arrRef spec0 w) := by dsimp only [dat0]
theorem after0_logits (c : Dev nD) (t : Fin cfg0.N) : (dat0 V c).after 0 t = blk0 V c 0 t := by dsimp only [dat0]
theorem after0_rows (c : Dev nD) (t : Fin cfg0.N) : (dat0 V c).after 1 t = blk0 V c 1 t := by dsimp only [dat0]
theorem after0_sums (c : Dev nD) (t : Fin cfg0.N) : (dat0 V c).after 2 t = sumsTo V c t.val := by dsimp only [dat0]
theorem after0_counts (c : Dev nD) (t : Fin cfg0.N) : (dat0 V c).after 3 t = countsTo V c t.val := by dsimp only [dat0]

theorem before0_logits (c : Dev nD) (t : Fin cfg0.N) (d) : (dat0 V c).before 0 t d = blk0 V c 0 t :=
  reads0_0 V (dat0 V c) (A0_eq V c 0) (after0_logits V c) t d
theorem before0_rows (c : Dev nD) (t : Fin cfg0.N) (d) : (dat0 V c).before 1 t d = blk0 V c 1 t :=
  reads0_1 V (dat0 V c) (A0_eq V c 1) (after0_rows V c) t d
/-- After the first point the results' buffers hold what the point before left. -/
theorem before0_sums (c : Dev nD) (t : Fin cfg0.N) (h : t.val ≠ 0) (d) : (dat0 V c).before 2 t d = sumsTo V c (t.val - 1) := by
  rw [Dat.before_out_traj (dat0 V c) 2 rfl (fun _ _ => rfl) (fun t _ hi _ => absurd hi (by rw [live_sums t]; decide)) t.val t rfl d,
    if_neg (by rw [kept_sums t h]; decide), after0_sums]
theorem before0_counts (c : Dev nD) (t : Fin cfg0.N) (h : t.val ≠ 0) (d) : (dat0 V c).before 3 t d = countsTo V c (t.val - 1) := by
  rw [Dat.before_out_traj (dat0 V c) 3 rfl (fun _ _ => rfl) (fun t _ hi _ => absurd hi (by rw [live_counts t]; decide)) t.val t rfl d,
    if_neg (by rw [kept_counts t h]; decide), after0_counts]

/-- What the first call's body is called with at a point, and what it returns, window by window. -/
def pre0 (c : Dev nD) (t : Fin cfg0.N) : sProp 𝕄 :=
  iprop((dat0 V c).Φ t.castSucc ∗ (dat0 V c).owesAt () t.castSucc
    ∗ (∃ d, owns (c : Thread nD τ) (a0 t) fullShare ((dat0 V c).before 0 t d))
    ∗ (∃ d, owns (c : Thread nD τ) (a1 t) fullShare ((dat0 V c).before 1 t d))
    ∗ (∃ d, owns (c : Thread nD τ) (a2 t) fullShare ((dat0 V c).before 2 t d))
    ∗ (∃ d, owns (c : Thread nD τ) (a3 t) fullShare ((dat0 V c).before 3 t d)))
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

/-- What the body leaves in each window. -/
theorem leaves0_logits (c : Dev nD) (t : Fin cfg0.N) : (dat0 V c).leavesExact 0 t = owns (c : Thread nD τ) (a0 t) fullShare (blk0 V c 0 t) := by
  unfold Dat.leavesExact; rw [live_logits t, after0_logits]
theorem leaves0_rows (c : Dev nD) (t : Fin cfg0.N) : (dat0 V c).leavesExact 1 t = owns (c : Thread nD τ) (a1 t) fullShare (blk0 V c 1 t) := by
  unfold Dat.leavesExact; rw [live_rows t, after0_rows]
theorem leaves0_sums (c : Dev nD) (t : Fin cfg0.N) : (dat0 V c).leavesExact 2 t = owns (c : Thread nD τ) (a2 t) fullShare (sumsTo V c t.val) := by
  unfold Dat.leavesExact; rw [live_sums t, after0_sums]
theorem leaves0_counts (c : Dev nD) (t : Fin cfg0.N) : (dat0 V c).leavesExact 3 t = owns (c : Thread nD τ) (a3 t) fullShare (countsTo V c t.val) := by
  unfold Dat.leavesExact; rw [live_counts t, after0_counts]

set_option maxHeartbeats 1600000 in
/-- The first call's body at the first point. -/
theorem sound0_start (c : Dev nD) (t : Fin cfg0.N) (hz : t.val = 0) :
    pre0 V c t ⊢ wp frame (wpE (defs₀ (F := F)) Variants.none c none) Set.univ (bodyAt0 t) (fun _ => post0 V c t) := by
  unfold pre0 post0 bodyAt0
  simp only [before0_logits, before0_rows, leaves0_logits, leaves0_rows, leaves0_sums, leaves0_counts]
  rw [show (dat0 V c).owesAt () t.succ = (dat0 V c).owesAt () t.castSucc from rfl, show (dat0 V c).Φ t.succ = (dat0 V c).Φ t.castSucc from rfl]
  rw [sumsTo_zero V c t hz, countsTo_zero V c t hz]
  iintro ⟨HΦ, Ho, ⟨%d0, H0⟩, ⟨%d1, H1⟩, ⟨%d2, H2⟩, ⟨%d3, H3⟩⟩
  iapply (run_start c (grid0.coords t) (a0 t) (ha0 t) (a1 t) (ha1 t) (a2 t) (ha2 t) (a3 t) (ha3 t) (blk0 V c 0 t) (blk0 V c 1 t) ((starts_iff t).mpr hz) (fun h => (adds_iff t).mp h hz) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

set_option maxHeartbeats 1600000 in
/-- The first call's body at a later point. -/
theorem sound0_add (c : Dev nD) (t : Fin cfg0.N) (hz : t.val ≠ 0) :
    pre0 V c t ⊢ wp frame (wpE (defs₀ (F := F)) Variants.none c none) Set.univ (bodyAt0 t) (fun _ => post0 V c t) := by
  unfold pre0 post0 bodyAt0
  simp only [before0_logits, before0_rows, before0_sums V c t hz, before0_counts V c t hz, leaves0_logits, leaves0_rows, leaves0_sums, leaves0_counts]
  rw [show (dat0 V c).owesAt () t.succ = (dat0 V c).owesAt () t.castSucc from rfl, show (dat0 V c).Φ t.succ = (dat0 V c).Φ t.castSucc from rfl]
  rw [sumsTo_later V c t hz, countsTo_later V c t hz]
  iintro ⟨HΦ, Ho, ⟨%d0, H0⟩, ⟨%d1, H1⟩, ⟨%d2, H2⟩, ⟨%d3, H3⟩⟩
  iapply (run_add c (grid0.coords t) (a0 t) (ha0 t) (a1 t) (ha1 t) (a2 t) (ha2 t) (a3 t) (ha3 t) (blk0 V c 0 t) (blk0 V c 1 t) (fun h => hz ((starts_iff t).mp h)) ((adds_iff t).mpr hz) (sumsTo V c (t.val - 1)) (countsTo V c (t.val - 1)) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row0 (t : Fin cfg0.N) : defs₀ (F := F) .tc cfg0.body (cfg0.bodyArgs t (cfg0.slots t)) = bodyAt0 t := by
  unfold defs₀; rw [Defs.onTc_tc]

/-- The first call's body meets its obligation at every point. -/
theorem obligation0 (c : Dev nD) : BodyObligation (dat0 (F := F) V c) (defs₀ (F := F)) Variants.none () Set.univ := fun t => by
  rw [bigSep_W0, bigSep_W0, row0]
  refine triple_restated ?_ rfl .rfl fun _ => .rfl
  by_cases hz : t.val = 0
  · exact sound0_start V c t hz
  · exact sound0_add V c t hz

/-! ## The second call -/

/-- The first point of the second call. -/
abbrev first1 : Fin cfg1.N := ⟨0, by decide⟩

/-- The projected prototypes. -/
def projAll (c : Dev nD) : Vec F S64x128 .f32 := k1_pay1 (blk1 V c 1 first1) (blk1 V c 0 first1) (blk1 V c 2 first1)

/-- A scoped buffer the second call leaves alone, held at some contents. -/
abbrev some_at (c : Dev nD) (r : Ref sig .tc) : sProp 𝕄 := iprop(∃ f : Buf (Elt F) ((c : Thread nD τ).loc r), ((c : Thread nD τ).loc r) ↦{fullShare} f)

/-- What the second call's launch hands the body besides the windows: the first call's staging buffers at some contents,
    the scratch buffer at some contents and the generator's register. -/
theorem rest1_eq (c : Dev nD) :
    (Pipeline.ΦA spec1 c : sProp 𝕄)
      = iprop(iprop(some_at c cc0_stg0_0 ∗ some_at c cc0_stg0_1 ∗ some_at c cc0_stg1_0 ∗ some_at c cc0_stg1_1 ∗ some_at c cc0_stg2_0 ∗ some_at c cc0_stg3_0 ∗ (∃ d, owns (c : Thread nD τ) projM fullShare d)) ∗ (∃ r, prngReg c r)) := by
  unfold Pipeline.ΦA; rw [scopedRest1_eq]; simp only [projM, owns_whole]; try rfl

/-- What is known besides the windows after `n` points: at first nothing, then the projected prototypes. -/
def held1 (c : Dev nD) : ℕ → sProp 𝕄
  | 0 => Pipeline.ΦA spec1 c
  | _ + 1 => iprop(iprop(some_at c cc0_stg0_0 ∗ some_at c cc0_stg0_1 ∗ some_at c cc0_stg1_0 ∗ some_at c cc0_stg1_1 ∗ some_at c cc0_stg2_0 ∗ some_at c cc0_stg3_0 ∗ owns (c : Thread nD τ) projM fullShare (projAll V c)) ∗ (∃ r, prngReg c r))

theorem held1_pos (c : Dev nD) (n : ℕ) (hn : n ≠ 0) :
    held1 V c n = iprop(iprop(some_at c cc0_stg0_0 ∗ some_at c cc0_stg0_1 ∗ some_at c cc0_stg1_0 ∗ some_at c cc0_stg1_1 ∗ some_at c cc0_stg2_0 ∗ some_at c cc0_stg3_0 ∗ owns (c : Thread nD τ) projM fullShare (projAll V c)) ∗ (∃ r, prngReg c r)) := by
  obtain _ | k := n
  · exact absurd rfl hn
  · rfl

/-- The second call's proof data over its arrays as found. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => k1_pay4 (blk1 V c 3 t) (projAll V c) (blk1 V c 4 t)
    | ⟨6, _⟩ => k1_pay5 (blk1 V c 3 t)
  Φ t := held1 V c t.val
  q _ := fullShare
  owed _ := 0

theorem A1_eq (c : Dev nD) (w : Fin cfg1.W) : (dat1 V c).A w = V c (Pipeline.arrRef spec1 w) := by dsimp only [dat1]
theorem after1_sums (c : Dev nD) (t : Fin cfg1.N) : (dat1 V c).after 0 t = blk1 V c 0 t := by dsimp only [dat1]
theorem after1_counts (c : Dev nD) (t : Fin cfg1.N) : (dat1 V c).after 1 t = blk1 V c 1 t := by dsimp only [dat1]
theorem after1_proj (c : Dev nD) (t : Fin cfg1.N) : (dat1 V c).after 2 t = blk1 V c 2 t := by dsimp only [dat1]
theorem after1_logits (c : Dev nD) (t : Fin cfg1.N) : (dat1 V c).after 3 t = blk1 V c 3 t := by dsimp only [dat1]
theorem after1_rows (c : Dev nD) (t : Fin cfg1.N) : (dat1 V c).after 4 t = blk1 V c 4 t := by dsimp only [dat1]
theorem after1_out (c : Dev nD) (t : Fin cfg1.N) : (dat1 V c).after 5 t = k1_pay4 (blk1 V c 3 t) (projAll V c) (blk1 V c 4 t) := by dsimp only [dat1]
theorem after1_conf (c : Dev nD) (t : Fin cfg1.N) : (dat1 V c).after 6 t = k1_pay5 (blk1 V c 3 t) := by dsimp only [dat1]

theorem before1_sums (c : Dev nD) (t : Fin cfg1.N) (d) : (dat1 V c).before 0 t d = blk1 V c 0 t :=
  reads1_0 V (dat1 V c) (A1_eq V c 0) (after1_sums V c) t d
theorem before1_counts (c : Dev nD) (t : Fin cfg1.N) (d) : (dat1 V c).before 1 t d = blk1 V c 1 t :=
  reads1_1 V (dat1 V c) (A1_eq V c 1) (after1_counts V c) t d
theorem before1_proj (c : Dev nD) (t : Fin cfg1.N) (d) : (dat1 V c).before 2 t d = blk1 V c 2 t :=
  reads1_2 V (dat1 V c) (A1_eq V c 2) (after1_proj V c) t d
theorem before1_logits (c : Dev nD) (t : Fin cfg1.N) (d) : (dat1 V c).before 3 t d = blk1 V c 3 t :=
  reads1_3 V (dat1 V c) (A1_eq V c 3) (after1_logits V c) t d
theorem before1_rows (c : Dev nD) (t : Fin cfg1.N) (d) : (dat1 V c).before 4 t d = blk1 V c 4 t :=
  reads1_4 V (dat1 V c) (A1_eq V c 4) (after1_rows V c) t d

/-- What the second call's body is called with at a point, and what it returns, window by window. -/
def pre1 (c : Dev nD) (t : Fin cfg1.N) : sProp 𝕄 :=
  iprop((dat1 V c).Φ t.castSucc ∗ (dat1 V c).owesAt () t.castSucc
    ∗ (∃ d, owns (c : Thread nD τ) (b0 t) fullShare ((dat1 V c).before 0 t d))
    ∗ (∃ d, owns (c : Thread nD τ) (b1 t) fullShare ((dat1 V c).before 1 t d))
    ∗ (∃ d, owns (c : Thread nD τ) (b2 t) fullShare ((dat1 V c).before 2 t d))
    ∗ (∃ d, owns (c : Thread nD τ) (b3 t) fullShare ((dat1 V c).before 3 t d))
    ∗ (∃ d, owns (c : Thread nD τ) (b4 t) fullShare ((dat1 V c).before 4 t d))
    ∗ (∃ d, owns (c : Thread nD τ) (b5 t) fullShare ((dat1 V c).before 5 t d))
    ∗ (∃ d, owns (c : Thread nD τ) (b6 t) fullShare ((dat1 V c).before 6 t d)))
def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t)

/-- The second call uses every window at every point. -/
theorem live1 (w : Fin cfg1.W) (t : Fin cfg1.N) : cfg1.idle w (grid1.coords t) = false := by
  fin_cases w <;> rfl

/-- What the body leaves in each window. -/
theorem leaves1_sums (c : Dev nD) (t : Fin cfg1.N) : (dat1 V c).leavesExact 0 t = owns (c : Thread nD τ) (b0 t) fullShare (blk1 V c 0 t) := by
  unfold Dat.leavesExact; rw [live1 0 t, after1_sums]
theorem leaves1_counts (c : Dev nD) (t : Fin cfg1.N) : (dat1 V c).leavesExact 1 t = owns (c : Thread nD τ) (b1 t) fullShare (blk1 V c 1 t) := by
  unfold Dat.leavesExact; rw [live1 1 t, after1_counts]
theorem leaves1_proj (c : Dev nD) (t : Fin cfg1.N) : (dat1 V c).leavesExact 2 t = owns (c : Thread nD τ) (b2 t) fullShare (blk1 V c 2 t) := by
  unfold Dat.leavesExact; rw [live1 2 t, after1_proj]
theorem leaves1_logits (c : Dev nD) (t : Fin cfg1.N) : (dat1 V c).leavesExact 3 t = owns (c : Thread nD τ) (b3 t) fullShare (blk1 V c 3 t) := by
  unfold Dat.leavesExact; rw [live1 3 t, after1_logits]
theorem leaves1_rows (c : Dev nD) (t : Fin cfg1.N) : (dat1 V c).leavesExact 4 t = owns (c : Thread nD τ) (b4 t) fullShare (blk1 V c 4 t) := by
  unfold Dat.leavesExact; rw [live1 4 t, after1_rows]
theorem leaves1_out (c : Dev nD) (t : Fin cfg1.N) : (dat1 V c).leavesExact 5 t = owns (c : Thread nD τ) (b5 t) fullShare (k1_pay4 (blk1 V c 3 t) (projAll V c) (blk1 V c 4 t)) := by
  unfold Dat.leavesExact; rw [live1 5 t, after1_out]
theorem leaves1_conf (c : Dev nD) (t : Fin cfg1.N) : (dat1 V c).leavesExact 6 t = owns (c : Thread nD τ) (b6 t) fullShare (k1_pay5 (blk1 V c 3 t)) := by
  unfold Dat.leavesExact; rw [live1 6 t, after1_conf]

set_option maxHeartbeats 1600000 in
/-- The second call's body at the first point. -/
theorem sound1_form (c : Dev nD) (t : Fin cfg1.N) (hz : t.val = 0) :
    pre1 V c t ⊢ wp frame (wpE (defs₀ (F := F)) Variants.none c none) Set.univ (bodyAt1 t) (fun _ => post1 V c t) := by
  unfold pre1 post1 bodyAt1
  simp only [before1_sums, before1_counts, before1_proj, before1_logits, before1_rows, leaves1_sums, leaves1_counts, leaves1_proj, leaves1_logits, leaves1_rows, leaves1_out, leaves1_conf]
  rw [show (dat1 V c).owesAt () t.succ = (dat1 V c).owesAt () t.castSucc from rfl]
  rw [show (dat1 V c).Φ t.succ = held1 V c (t.val + 1) from rfl, show (dat1 V c).Φ t.castSucc = held1 V c t.val from rfl]
  obtain rfl : t = first1 := Fin.ext hz
  rw [held1_pos V c ((first1 : Fin cfg1.N).val + 1) (by decide), show held1 V c (first1 : Fin cfg1.N).val = Pipeline.ΦA spec1 c from rfl, rest1_eq]
  iintro ⟨⟨⟨G0, G1, G2, G3, G4, G5, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run_form c (grid1.coords first1) (b0 first1) (hb0 first1) (b1 first1) (hb1 first1) (b2 first1) (hb2 first1) (b3 first1) (hb3 first1) (b4 first1) (hb4 first1) (b5 first1) (hb5 first1) (b6 first1) (hb6 first1) projM (Memref.isWhole_whole _) (blk1 V c 0 first1) (blk1 V c 1 first1) (blk1 V c 2 first1) (blk1 V c 3 first1) (blk1 V c 4 first1) ((forms_iff first1).mpr rfl) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, H5, H6, HS⟩
  isplitl [G0 G1 G2 G3 G4 G5 HS Hg]
  · isplitl [G0 G1 G2 G3 G4 G5 HS]
    · isplitl [G0]; · iexact G0
      isplitl [G1]; · iexact G1
      isplitl [G2]; · iexact G2
      isplitl [G3]; · iexact G3
      isplitl [G4]; · iexact G4
      isplitl [G5]; · iexact G5
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The second call's body at a later point. -/
theorem sound1_use (c : Dev nD) (t : Fin cfg1.N) (hz : t.val ≠ 0) :
    pre1 V c t ⊢ wp frame (wpE (defs₀ (F := F)) Variants.none c none) Set.univ (bodyAt1 t) (fun _ => post1 V c t) := by
  unfold pre1 post1 bodyAt1
  simp only [before1_sums, before1_counts, before1_proj, before1_logits, before1_rows, leaves1_sums, leaves1_counts, leaves1_proj, leaves1_logits, leaves1_rows, leaves1_out, leaves1_conf]
  rw [show (dat1 V c).owesAt () t.succ = (dat1 V c).owesAt () t.castSucc from rfl]
  rw [show (dat1 V c).Φ t.succ = held1 V c (t.val + 1) from rfl, show (dat1 V c).Φ t.castSucc = held1 V c t.val from rfl]
  rw [held1_pos V c (t.val + 1) (by omega), held1_pos V c t.val hz]
  iintro ⟨⟨⟨G0, G1, G2, G3, G4, G5, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run_use c (grid1.coords t) (b0 t) (hb0 t) (b1 t) (hb1 t) (b2 t) (hb2 t) (b3 t) (hb3 t) (b4 t) (hb4 t) (b5 t) (hb5 t) (b6 t) (hb6 t) projM (Memref.isWhole_whole _) (blk1 V c 0 t) (blk1 V c 1 t) (blk1 V c 2 t) (blk1 V c 3 t) (blk1 V c 4 t) (fun h => hz ((forms_iff t).mp h)) (projAll V c) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, H5, H6, HS⟩
  isplitl [G0 G1 G2 G3 G4 G5 HS Hg]
  · isplitl [G0 G1 G2 G3 G4 G5 HS]
    · isplitl [G0]; · iexact G0
      isplitl [G1]; · iexact G1
      isplitl [G2]; · iexact G2
      isplitl [G3]; · iexact G3
      isplitl [G4]; · iexact G4
      isplitl [G5]; · iexact G5
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row1 (t : Fin cfg1.N) : defs₀ (F := F) .tc cfg1.body (cfg1.bodyArgs t (cfg1.slots t)) = bodyAt1 t := by
  unfold defs₀; rw [Defs.onTc_tc]

/-- The second call's body meets its obligation at every point. -/
theorem obligation1 (c : Dev nD) : BodyObligation (dat1 (F := F) V c) (defs₀ (F := F)) Variants.none () Set.univ := fun t => by
  rw [bigSep_W1, bigSep_W1, row1]
  refine triple_restated ?_ rfl .rfl fun _ => .rfl
  by_cases hz : t.val = 0
  · exact sound1_form V c t hz
  · exact sound1_use V c t hz

/-- After the last point the scratch buffer is handed back, its contents forgotten. -/
theorem exit1 (c : Dev nD) : (dat1 V c).Φ (Fin.last cfg1.N) ⊢ Pipeline.ΦA spec1 c := by
  rw [show (dat1 V c).Φ (Fin.last cfg1.N) = held1 V c 25 from rfl, held1_pos V c 25 (by decide), rest1_eq]
  iintro ⟨⟨G0, G1, G2, G3, G4, G5, HS⟩, Hg⟩
  isplitl [G0 G1 G2 G3 G4 G5 HS]
  · isplitl [G0]; · iexact G0
    isplitl [G1]; · iexact G1
    isplitl [G2]; · iexact G2
    isplitl [G3]; · iexact G3
    isplitl [G4]; · iexact G4
    isplitl [G5]; · iexact G5
    iexists _; iexact HS
  iexact Hg

end Cert.Two

end
-- ==== Proof.Two.Run.lean ====
module

public import proofs.«01_k».proof.Proof.Two.Data
public import Idealize.ShloMosaic.Lib.Claim
public import Idealize.ShloMosaic.Lib.Pipeline.RegionArraysS

/-! The whole run: the two calls one after the other and the line after them. Every execution ends with every buffer at
what the calls' proof data and the line give it, so with the arguments unchanged, and with every semaphore counter at
zero. -/

@[expose] public section

set_option maxRecDepth 16384

noncomputable section

namespace Cert.Two

open Cert.PlainIdeal Cert.PlainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg cellOf)

variable {F : FTy → Type} [FloatOps F] [Named F]

local notation "𝕄" => MT nD τ sig Unit (Elt F) ℕ (UR sig nD τ) ℕ

/-! ## A call as a segment -/

/-- The pairs of windows and points of either call, one proof datum per call. -/
abbrev PD := (p : Fin 2) → (c : Dev nD) → Dat τ (Elt F) Unit ℕ (UR sig nD τ) ℕ (cfgs p) c

/-- No level is assigned, no wait is made. -/
abbrev noLevels : GSem nD τ sig → Finset Unit := fun _ => ∅
abbrev noLevel : GSem nD τ sig → Unit → ℕ := fun _ _ => 0

/-- What rides beside the buffers: the generator's register and a core that owes nothing. -/
abbrev beside (c : Dev nD) : sProp 𝕄 := iprop((∃ r, prngReg c r) ∗ ∃ W, owes (c.tc : Thread nD τ) (0 : CellTallies nD τ sig Unit) W)

set_option backward.isDefEq.respectTransparency.types false in
/-- Call `p` as a segment: entered with every unscoped buffer at `W c`, left with the windows' arrays at the proof data's
    end and the others as they were. -/
def callSeg (dats : PD (F := F)) (p : Fin 2) (kit : Pipeline.PLaunchFacts (nD := nD) (τ := τ) (pcfgs (F := F)) p)
    (W : Dev nD → Valuation τ sig (Elt F))
    (hbody : ∀ c, BodyObligation (dats p c) (defs₀ (F := F)) Variants.none () Set.univ)
    (hshare : ∀ c w, (dats p c).share w = fullShare) (howed : ∀ c t, (dats p c).owed t = 0)
    (hA : ∀ c w, (dats p c).A w = W c (Pipeline.arrRef (cfgs p).spec w))
    (hrec : ∀ c (W' : Set (SemLoc sig × Unit)), W' ⊆ (dats p c).bound () 0)
    (hin : ∀ c, Pipeline.ΦA (cfgs p).spec c ⊢ (dats p c).Φ 0) (hout : ∀ c, (dats p c).Φ (Fin.last (cfgs p).N) ⊢ Pipeline.ΦA (cfgs p).spec c) :
    RegionSeg (pcfgs (F := F)) adm dats () (defs₀ (F := F)) Variants.none noLevels noLevel p where
  win := kit.win.to₀
  block_pos := kit.block_pos
  stage_whole := kit.stage_whole
  K := PEmpty
  osem := fun k => k.elim
  ho := Pipeline.OwnSemFacts.none _
  hbody := fun c => (hbody c).loose
  hwaits := Pipeline.hwaits_of_owed_zero (pcfgs (F := F)) adm dats () noLevels noLevel p howed
  pre := fun c => iprop(StableHlo.held (c.tc : Thread nD τ) (Pipeline.ucRefs τ sig) (W c) ∗ beside c)
  post := fun c => iprop(StableHlo.held (c.tc : Thread nD τ) (Pipeline.ucRefs τ sig) (Pipeline.afterRegion (dats p c) (W c)) ∗ beside c)
  X := fun c => iprop(∃ r, prngReg c r)
  Y := fun c => iprop(∃ r, prngReg c r)
  Z := fun c => Pipeline.unscopedRest (Ix := Unit) (Name := ℕ) (U := UR sig nD τ) (Lvl := ℕ) (cfgs p).spec c (fun b => W c (Proc.devRef .tc b))
  hentry := fun c => by
    rw [Pipeline.ownSems0_none,
      show StableHlo.held (c.tc : Thread nD τ) (Pipeline.ucRefs τ sig) (W c) = unscopedBufs c (fun b => W c (Proc.devRef .tc b))
        from (Pipeline.unscopedBufs_held (Ix := Unit) (Name := ℕ) (U := UR sig nD τ) (Lvl := ℕ) c (W c)).symm]
    have hsplit := Pipeline.arrays_of_unscopedBufs (p := p) (pcfgs (F := F)) adm dats kit.win kit.arr_whole c (hshare c)
      (fun b => W c (Proc.devRef .tc b)) (fun w => hA c w)
    iintro ⟨⟨Hub, Hp, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin
      rw [howed c 0]
      icases HO with ⟨%W', HO⟩
      iexists W'; isplitr; · ipureintro; exact hrec c _
      iexact HO
    isplitl [Hp]; · iexact Hp
    iexact Hrest
  hin := fun c => (show _ ⊢ Pipeline.ΦA (cfgs p).spec c from by
    unfold Pipeline.ΦA; iintro ⟨Hp, -, Hr⟩
    isplitl [Hr] <;> iassumption).trans (hin c)
  hout := fun c => (hout c).trans (by
    rw [Pipeline.ownSems0_none]; unfold Pipeline.ΦA
    iintro ⟨Hr, Hp⟩
    isplitl [Hp]; · iexact Hp
    isplitr; · iempintro
    iexact Hr)
  hexit := fun c => by
    have hjoin := Pipeline.unscopedBufs_of_arrays (p := p) (pcfgs (F := F)) adm (Ix := Unit) (Name := ℕ) (U := UR sig nD τ) (Lvl := ℕ)
      kit.win kit.arr_whole c dats (hshare c)
      (fun b => W c (Proc.devRef .tc b)) (fun b => Pipeline.afterRegion (dats p c) (W c) (Proc.devRef .tc b)) ((dats p c).arrAt · (cfgs p).N)
      (fun w => (Pipeline.afterRegion_arr (dats p c) (W c) kit.win.arr_inj w).symm)
      (fun b hb => Pipeline.afterRegion_of_not_arr (dats p c) (W c)
        fun w h => hb (h ▸ Finset.mem_image.mpr ⟨w, Finset.mem_univ _, rfl⟩))
    rw [show StableHlo.held (c.tc : Thread nD τ) (Pipeline.ucRefs τ sig) (Pipeline.afterRegion (dats p c) (W c)) = unscopedBufs c (fun b => Pipeline.afterRegion (dats p c) (W c) (Proc.devRef .tc b))
        from (Pipeline.unscopedBufs_held (Ix := Unit) (Name := ℕ) (U := UR sig nD τ) (Lvl := ℕ) c (Pipeline.afterRegion (dats p c) (W c))).symm]
    iintro ⟨Ha, HO, Hp, Hrest⟩
    imodintro
    isplitl [Ha Hrest]
    · iapply hjoin; isplitl [Ha] <;> iassumption
    isplitl [Hp]; · iexact Hp
    unfold Dat.owesAt Pipeline.owesWithin
    rw [howed c (Fin.last _)]
    icases HO with ⟨%W', -, HO⟩; iexists W'; iexact HO

/-! ## The run -/

variable (m : (ℓ : Loc nD τ sig) → Buf (Elt F) ℓ) (ρ : Dev nD → PrngReg)

/-- The buffers after the first call, after the second and at the end. -/
def Vmid (c : Dev nD) : Valuation τ sig (Elt F) := Pipeline.afterRegion (dat0 (V0 m) c) (V0 m c)
def Vtop (c : Dev nD) : Valuation τ sig (Elt F) := Pipeline.afterRegion (dat1 (Vmid m) c) (Vmid m c)
def Vend (c : Dev nD) : Valuation τ sig (Elt F) := StableHlo.after hostOps2 (Vtop m c)

/-- The two calls' proof data. -/
def dats : PD (F := F)
  | ⟨0, _⟩ => dat0 (V0 m)
  | ⟨1, _⟩ => dat1 (Vmid m)

/-- The first call as a segment. -/
def call0 : RegionSeg (pcfgs (F := F)) adm (dats m) () (defs₀ (F := F)) Variants.none noLevels noLevel 0 :=
  callSeg (dats m) 0 launch0.toP (V0 m) (fun c => obligation0 (V0 m) c) (fun c => (dat0 (V0 m) c).share_full fun _ => rfl) (fun _ _ => rfl)
    (fun c w => A0_eq (V0 m) c w) (fun _ _ _ _ => Or.inl trivial) (fun _ => .rfl) (fun _ => .rfl)
/-- The second call as a segment. -/
def call1 : RegionSeg (pcfgs (F := F)) adm (dats m) () (defs₀ (F := F)) Variants.none noLevels noLevel 1 :=
  callSeg (dats m) 1 launch1.toP (Vmid m) (fun c => obligation1 (Vmid m) c) (fun c => (dat1 (Vmid m) c).share_full fun _ => rfl) (fun _ _ => rfl)
    (fun c w => A1_eq (Vmid m) c w) (fun _ _ _ _ => Or.inl trivial) (fun _ => .rfl) (fun c => exit1 (Vmid m) c)
/-- The line after the calls as a segment. -/
def lastLine : HostSeg (Ix := Unit) (Name := ℕ) (U := UR sig nD τ) (Lvl := ℕ) (pcfgs (F := F)) (defs₀ (F := F)) Variants.none noLevels noLevel :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (Vtop m) beside

set_option backward.isDefEq.respectTransparency.types false in
set_option maxHeartbeats 1600000 in
/-- Every execution of @main ends with every unscoped buffer at its last contents and every semaphore counter at zero. -/
theorem run_quiescent : θ_run defs (onTc (τ := τ) (main (F := F))) ⟨m, fun _ => 0, ρ⟩
    (fun r => (∀ (c : Dev nD), ∀ b ∈ Pipeline.ucRefs τ sig, r.2.mem ((c.tc : Thread nD τ).1, b) = Vend m c b) ∧ r.2.sem = fun _ => 0) := by
  refine Pipeline.θ_run_regions_kit_dev_sems (pcfgs (F := F)) adm (dats m) () cellOf_inj emb₁ (defs₀ (F := F)) Variants.none noLevels noLevel m ρ main
    (fun _ => [.region (call0 m), .region (call1 m), .host (lastLine m)])
    (fun c Q => by
      rewrite [main_chain c, Seg.run_eq_chain,
        show ([Seg.region (call0 m), .region (call1 m), .host (lastLine m)]).map Seg.prog = [
          Prog.lift (.customCall (Pipeline.entry 0) ()),
          Prog.lift (.customCall (Pipeline.entry 1) ()),
          StableHlo.seq hostOps2 ] from rfl]
      dsimp (config := { failIfUnchanged := false }) only
      exact .rfl)
    (fun c => by simp only [Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V0 m c) ∗ beside c))
    (Tₙ := fun c => StableHlo.held (c.tc : Thread nD τ) (Pipeline.ucRefs τ sig) (Vend m c))
    (hch := fun c => ⟨.rfl, .rfl, .rfl,
      (show iprop(StableHlo.held (c.tc : Thread nD τ) (Pipeline.ucRefs τ sig) (Vend m c)
          ∗ (∃ r, prngReg c r) ∗ ∃ W, owes (c.tc : Thread nD τ) (0 : CellTallies nD τ sig Unit) W) ⊢ (_ : sProp 𝕄) from by
        iintro ⟨Hh, -, HO⟩
        isplitl [Hh] <;> iassumption)⟩)
    (hinit := by
      refine Pipeline.initEach noLevels noLevel fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = Vend m c b)
    (hfin := fun c s' => by
      unfold StableHlo.held
      iintro ⟨Hh, HSI⟩
      ihave Hr := (pointsTo_read_all (Pipeline.ucRefs τ sig) (fun b => ((c.tc : Thread nD τ).1, b)) (Vend m c) s') $$ [Hh HSI]
      · isplitl [Hh] <;> iassumption
      imodintro; iexact Hr)
    (hQ := fun _ h hz => ⟨h, funext fun g => hz g (.inr (regions_no_unscoped g.2))⟩)

/-! ## The arguments -/

/-- A buffer that is no result of a call nor of the line after them ends as launched. -/
theorem Vend_keeps (c : Dev nD) (r : Ref sig .tc) (h2 : r ∉ hostOps2_W) (h1 : ∀ w, Pipeline.arrRef spec1 w = r → (cfg1.win w).isOut = false)
    (h0 : ∀ w, Pipeline.arrRef spec0 w = r → (cfg0.win w).isOut = false) : Vend m c r = m ((c.tc : Thread nD τ).loc r) := by
  refine (StableHlo.after_of_writes_sub hostOps2 _ hostOps2_writes h2).trans ?_
  refine (Pipeline.afterRegion_keeps (dat1 (Vmid m) c) (Vmid m c) launch1.win.arr_inj (A1_eq (Vmid m) c) r h1).trans ?_
  exact Pipeline.afterRegion_keeps (dat0 (V0 m) c) (V0 m c) launch0.win.arr_inj (A0_eq (V0 m) c) r h0

/-- The frame claim of the two calls, at any carrier of the floats. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_quiescent m ρ)
  have hb : ∀ r' : Ref sig .tc, r'.isScoped = false → r.2.mem ((c.tc : Thread nD τ).loc r') = Vend m c r' := fun r' hr =>
    h.1 c (Proc.devRef .tc r') (Finset.mem_filter.mpr ⟨StableHlo.devRef_mem_tcRefs r', by rw [show (Proc.devRef (τ := τ) .tc r').isScoped = r'.isScoped from rfl, hr]; decide⟩)
  exact ⟨(hb main_arg0 rfl).trans (Vend_keeps m c main_arg0 (by decide) (by decide) (by decide)),
    (hb main_arg1 rfl).trans (Vend_keeps m c main_arg1 (by decide) (by decide) (by decide)),
    (hb main_arg2 rfl).trans (Vend_keeps m c main_arg2 (by decide) (by decide) (by decide)),
    (hb main_arg3 rfl).trans (Vend_keeps m c main_arg3 (by decide) (by decide) (by decide)),
    (hb main_arg4 rfl).trans (Vend_keeps m c main_arg4 (by decide) (by decide) (by decide))⟩

end Cert.Two

end
-- ==== Proof.TwoValue.Payload.lean ====
module

public import proofs.«01_k».proof.Proof.Value.Payload
public import proofs.«01_k».proof.Proof.Two.Points

/-! What the two calls compute on four thousand rows, read at an index. -/

@[expose] public section

set_option maxRecDepth 16384

noncomputable section
namespace Cert.TwoValue

open Idealize.ShloMosaic Cert.PlainIdeal Cert.PlainIdeal.Gen Cert.Refine.Spec
open Cert.Refine.Payload (weight total bits_bot)

theorem inv_n : Named.named (F := Ideal) (φ := .f32) κ "inv_n" 925353388#32 = ((1 / 100000 : ℝ) : EReal) := rfl

variable (v : FVec Ideal S4000x64 .f32)

/-- A row's softmax weights, and its entropy over the logarithm of 64 as the second call forms it. -/
def share {M : ℕ} (r : Fin M → EReal) (b : Fin M) : EReal := Ideal.div (weight r b) (total r)
def spread {M : ℕ} (r : Fin M → EReal) : EReal :=
  (0 - ∑ x, share r x * Ideal.log (max (Ideal.ofBits .f32 0x3089705F#32) (share r x))) * Ideal.div 1 (Ideal.log (Ideal.ofBits .f32 0x42800000#32))

theorem fold_peak (r : Fin 4000) :
    Finset.fold max (Ideal.ofBits .f32 0xFF800000#32) (fun x => (v (ix2 r x) : EReal)) Finset.univ = peak (row v r) := by
  rw [bits_bot]; rfl

/-- A test's bit as a number. -/
theorem of_bit (x : BitVec 1) : FloatOps.sitofp (F := Ideal) .f32 (BitVec.setWidth 32 x) = Scalar.select x (1 : EReal) 0 := by
  have h : x = 0#1 ∨ x = 1#1 := by
    revert x
    decide
  rcases h with rfl | rfl
  · show (((BitVec.setWidth 32 0#1).toInt : ℝ) : EReal) = 0
    norm_num
  · show (((BitVec.setWidth 32 1#1).toInt : ℝ) : EReal) = 1
    norm_num

/-- The marks of a block of rows. -/
theorem marks (r : Fin 4000) (b : Fin 64) : k0_pay1 (F := Ideal) v (ix2 r b) = mark (row v r) b := by
  have h : k0_pay1 (F := Ideal) v (ix2 r b)
      = FloatOps.sitofp (F := Ideal) .f32 (BitVec.setWidth 32 (IntOp.cmpi .eq (BitVec.ofNat 32 b.val) (Finset.fold IntOp.minsi 2147483647#32 (fun x : Fin 64 => if (v (ix2 r x) : EReal) = Finset.fold max (Ideal.ofBits .f32 0xFF800000#32) (fun x => (v (ix2 r x) : EReal)) Finset.univ then BitVec.ofNat 32 x.val else 64#32) Finset.univ))) := by
    pointwise [k0_pay1]
  rw [h, fold_peak, of_bit]
  exact mark_eq (row v r) b

/-- A block's value rows summed by bucket. -/
theorem sums (w : FVec Ideal S4000x128 .f32) (b : Fin 64) (d : Fin 128) :
    k0_pay2 (F := Ideal) v w (ix2 b d) = ∑ x : Fin 4000, mark (row v x) b * (w (ix2 x d) : EReal) := by
  have h : k0_pay2 (F := Ideal) v w (ix2 b d) = ∑ x : Fin 4000, (k0_pay1 (F := Ideal) v (ix2 x b) : EReal) * (w (ix2 x d) : EReal) := by
    pointwise [k0_pay2]
  rw [h]
  exact Finset.sum_congr rfl fun x _ => by rw [marks]

/-- A block's rows counted by bucket, the count repeated along the row. -/
theorem counts (b : Fin 64) (d : Fin 128) : k0_pay3 (F := Ideal) v (ix2 b d) = ∑ x : Fin 4000, mark (row v x) b := by
  have h : k0_pay3 (F := Ideal) v (ix2 b d) = ∑ x : Fin 4000, (k0_pay1 (F := Ideal) v (ix2 x b) : EReal) := by
    pointwise [k0_pay3]
  rw [h]
  exact Finset.sum_congr rfl fun x _ => by rw [marks]

/-- Both added to what was there. -/
theorem sums_add (w : FVec Ideal S4000x128 .f32) (a : FVec Ideal S64x128 .f32) (b : Fin 64) (d : Fin 128) :
    k0_pay4 (F := Ideal) v w a (ix2 b d) = (a (ix2 b d) : EReal) + ∑ x : Fin 4000, mark (row v x) b * (w (ix2 x d) : EReal) := by
  rw [← sums v w b d]
  pointwise [k0_pay4]
theorem counts_add (a : FVec Ideal S64x128 .f32) (b : Fin 64) (d : Fin 128) :
    k0_pay5 (F := Ideal) v a (ix2 b d) = (a (ix2 b d) : EReal) + ∑ x : Fin 4000, mark (row v x) b := by
  rw [← counts v b d]
  pointwise [k0_pay5]

/-- The projected prototypes. -/
theorem projected (n a : FVec Ideal S64x128 .f32) (w : FVec Ideal S128x128 .f32) (b : Fin 64) (d : Fin 128) :
    k1_pay1 (F := Ideal) n a w (ix2 b d)
      = ∑ x : Fin 128, (if (n (ix2 b x) : EReal) = 0 then (∑ k : Fin 64, (a (ix2 k x) : EReal)) * ((1 / 100000 : ℝ) : EReal)
          else Ideal.div (a (ix2 b x)) (max 1 (n (ix2 b x)))) * (w (ix2 d x) : EReal) := by
  rw [← inv_n]
  pointwise [k1_pay1]

/-- The softmax of a row. -/
theorem shares (r : Fin 4000) (b : Fin 64) : k1_pay2 (F := Ideal) v (ix2 r b) = share (row v r) b := by
  unfold share total weight
  rw [← fold_peak]
  pointwise [k1_pay2]

/-- The gate of a row. -/
theorem spreads (r : Fin 4000) (b : Fin 1) : k1_pay3 (F := Ideal) v (ix2 r b) = spread (row v r) := by
  have h : k1_pay3 (F := Ideal) v (ix2 r b)
      = (0 - ∑ x : Fin 64, (k1_pay2 (F := Ideal) v (ix2 r x) : EReal) * Ideal.log (max (Ideal.ofBits .f32 0x3089705F#32) (k1_pay2 (F := Ideal) v (ix2 r x)))) * Ideal.div 1 (Ideal.log (Ideal.ofBits .f32 0x42800000#32)) := by
    pointwise [k1_pay3]
    rfl
  rw [h]
  unfold spread
  simp only [shares]

/-- The first output's rows. -/
theorem outs (p : FVec Ideal S64x128 .f32) (h : FVec Ideal S4000x128 .f32) (r : Fin 4000) (d : Fin 128) :
    k1_pay4 (F := Ideal) v p h (ix2 r d)
      = (h (ix2 r d) : EReal) + spread (row v r) * ∑ x : Fin 64, share (row v r) x * (p (ix2 x d) : EReal) := by
  have e : k1_pay4 (F := Ideal) v p h (ix2 r d)
      = (h (ix2 r d) : EReal) + (k1_pay3 (F := Ideal) v (ix2 r (0 : Fin 1)) : EReal) * ∑ x : Fin 64, (k1_pay2 (F := Ideal) v (ix2 r x) : EReal) * (p (ix2 x d) : EReal) := by
    pointwise [k1_pay4]
  rw [e, spreads]
  simp only [shares]

/-- The second output's rows. -/
theorem confs (r : Fin 4000) (b : Fin 1) : k1_pay5 (F := Ideal) v (ix2 r b) = 1 - spread (row v r) := by
  rw [← spreads v r b]
  pointwise [k1_pay5]

end Cert.TwoValue

end
-- ==== Proof.TwoValue.Windows.lean ====
module

public import proofs.«01_k».proof.Proof.TwoValue.Payload
public import Idealize.ShloMosaic.Lib.Pipeline.ValueKit

/-! The block of each input of the two calls a grid point sees, and where a point's results lie, read at an index of the
array. -/

@[expose] public section

set_option maxRecDepth 16384

noncomputable section

namespace Cert.TwoValue

open Idealize.ShloMosaic Idealize.ShloMosaic.TcCoe Cert.PlainIdeal Cert.PlainIdeal.Gen Cert.Refine.Spec Cert.Two

variable (V : Dev nD → Valuation τ sig (Elt Ideal))

/-- Every window's block index at every point of either call. -/
theorem idx0 : ∀ t : Fin cfg0.N, win0_0.index t = ![t.val, 0] ∧ win0_1.index t = ![t.val, 0] ∧ win0_2.index t = ![0, 0] ∧ win0_3.index t = ![0, 0] :=
  (by decide +kernel : ∀ t : Fin grid0.N, _)
theorem idx1 : ∀ t : Fin cfg1.N, win1_0.index t = ![0, 0] ∧ win1_1.index t = ![0, 0] ∧ win1_2.index t = ![0, 0]
    ∧ win1_3.index t = ![t.val, 0] ∧ win1_4.index t = ![t.val, 0] ∧ win1_5.index t = ![t.val, 0] ∧ win1_6.index t = ![t.val, 0] :=
  (by decide +kernel : ∀ t : Fin grid1.N, _)

theorem points0 (t : Fin cfg0.N) : t.val < 25 := t.isLt
theorem points1 (t : Fin cfg1.N) : t.val < 25 := t.isLt

/-! ## The first call -/

/-- A block of the bucket logits the rows are sorted by. -/
theorem keys (c : Dev nD) (t : Fin cfg0.N) (n : Fin 4000) (k : Fin 64) (hn : t.val * 4000 + n.val < 100000) :
    blk0 V c 0 t (ix2 n k) = V c main_arg3 (ix2 (⟨t.val * 4000 + n.val, hn⟩ : Fin 100000) k) := by
  have h := (idx0 t).1
  blk_ext [blk0, h]
/-- A block of the value rows. -/
theorem values (c : Dev nD) (t : Fin cfg0.N) (n : Fin 4000) (k : Fin 128) (hn : t.val * 4000 + n.val < 100000) :
    blk0 V c 1 t (ix2 n k) = V c main_arg1 (ix2 (⟨t.val * 4000 + n.val, hn⟩ : Fin 100000) k) := by
  have h := (idx0 t).2.1
  blk_ext [blk0, h]

/-- The sums' and the counts' one block is the whole array. -/
theorem place_sums (t : Fin cfg0.N) (b : Fin 64) (d : Fin 128) : (win0_2.blk t).view.emb (ix2 b d) = ix2 b d := by
  have h := (idx0 t).2.2.1
  blk_ext [h]
theorem place_counts (t : Fin cfg0.N) (b : Fin 64) (d : Fin 128) : (win0_3.blk t).view.emb (ix2 b d) = ix2 b d := by
  have h := (idx0 t).2.2.2
  blk_ext [h]

/-! ## The second call -/

/-- The sums, the counts and the projection. -/
theorem sums_found (c : Dev nD) (t : Fin cfg1.N) (b : Fin 64) (d : Fin 128) : blk1 V c 0 t (ix2 b d) = V c main_call0_v0_0 (ix2 b d) := by
  have h := (idx1 t).1
  blk_ext [blk1, h]
theorem counts_found (c : Dev nD) (t : Fin cfg1.N) (b : Fin 64) (d : Fin 128) : blk1 V c 1 t (ix2 b d) = V c main_call0_v0_1 (ix2 b d) := by
  have h := (idx1 t).2.1
  blk_ext [blk1, h]
theorem projection (c : Dev nD) (t : Fin cfg1.N) (n : Fin 128) (k : Fin 128) : blk1 V c 2 t (ix2 n k) = V c main_arg4 (ix2 n k) := by
  have h := (idx1 t).2.2.1
  blk_ext [blk1, h]

/-- A block of the bucket logits the rows are recovered by. -/
theorem queries (c : Dev nD) (t : Fin cfg1.N) (n : Fin 4000) (k : Fin 64) (hn : t.val * 4000 + n.val < 100000) :
    blk1 V c 3 t (ix2 n k) = V c main_arg2 (ix2 (⟨t.val * 4000 + n.val, hn⟩ : Fin 100000) k) := by
  have h := (idx1 t).2.2.2.1
  blk_ext [blk1, h]
/-- A block of the rows to recover. -/
theorem rows (c : Dev nD) (t : Fin cfg1.N) (n : Fin 4000) (k : Fin 128) (hn : t.val * 4000 + n.val < 100000) :
    blk1 V c 4 t (ix2 n k) = V c main_arg0 (ix2 (⟨t.val * 4000 + n.val, hn⟩ : Fin 100000) k) := by
  have h := (idx1 t).2.2.2.2.1
  blk_ext [blk1, h]

/-- Where a block's results lie in the arrays. -/
theorem place_rows (t : Fin cfg1.N) (n : Fin 4000) (d : Fin 128) (hn : t.val * 4000 + n.val < 100000) :
    (win1_5.blk t).view.emb (ix2 n d) = ix2 (⟨t.val * 4000 + n.val, hn⟩ : Fin 100000) d := by
  have h := (idx1 t).2.2.2.2.2.1
  blk_ext [h]
theorem place_confidences (t : Fin cfg1.N) (n : Fin 4000) (d : Fin 1) (hn : t.val * 4000 + n.val < 100000) :
    (win1_6.blk t).view.emb (ix2 n d) = ix2 (⟨t.val * 4000 + n.val, hn⟩ : Fin 100000) d := by
  have h := (idx1 t).2.2.2.2.2.2
  blk_ext [h]

end Cert.TwoValue

end
-- ==== Proof.TwoValue.Collected.lean ====
module

public import proofs.«01_k».proof.Proof.TwoValue.Windows
public import proofs.«01_k».proof.Proof.Two.Run
public import proofs.«01_k».proof.Proof.Value.Entropy

/-! The bucket sums and counts the first call leaves, and the projected prototypes the second forms of them. -/

@[expose] public section

set_option maxRecDepth 16384

noncomputable section

namespace Cert.TwoValue

open Idealize.ShloMosaic Idealize.ShloMosaic.TcCoe Cert.PlainIdeal Cert.PlainIdeal.Gen Cert.Refine.Spec Cert.Two

variable (m : (ℓ : Loc nD τ sig) → Buf (Elt Ideal) ℓ) (c : Dev nD)

/-- The arguments as arrays of extended reals. -/
abbrev K : FVec Ideal ⟨2, ![100000, 64]⟩ .f32 := m ((c : Thread nD τ).loc main_arg3)
abbrev Vl : FVec Ideal ⟨2, ![100000, 128]⟩ .f32 := m ((c : Thread nD τ).loc main_arg1)
abbrev W : FVec Ideal ⟨2, ![128, 128]⟩ .f32 := m ((c : Thread nD τ).loc main_arg4)
abbrev Q : FVec Ideal ⟨2, ![100000, 64]⟩ .f32 := m ((c : Thread nD τ).loc main_arg2)
abbrev H : FVec Ideal ⟨2, ![100000, 128]⟩ .f32 := m ((c : Thread nD τ).loc main_arg0)

/-! ## The first call's arrays -/

/-- The part of a sum over all rows that block `t` holds. -/
def part (f : Fin 100000 → EReal) (t : ℕ) : EReal :=
  if h : t < 25 then ∑ n : Fin 4000, f ⟨t * 4000 + n.val, by omega⟩ else 0

/-- A quantity that starts with the first block's part and gains each later block's ends at the whole sum. -/
theorem gathered (f : Fin 100000 → EReal) (g : ℕ → EReal) (h0 : g 0 = part f 0) (hs : ∀ t, t + 1 < 25 → g (t + 1) = g t + part f (t + 1)) :
    g 24 = ∑ n, f n := by
  have h : ∀ n, n < 25 → g n = ∑ t ∈ Finset.range (n + 1), part f t := by
    intro n
    induction n with
    | zero => intro _; rw [h0, Finset.sum_range_one]
    | succ n ih => intro hn; rw [hs n hn, ih (by omega), Finset.sum_range_succ _ (n + 1)]
  rw [h 24 (by omega), Finset.sum_range, Fin.sum_univ_tiles 25 4000 rfl f]
  exact Finset.sum_congr rfl fun t _ => by rw [part, dif_pos t.isLt]

/-- A block's row of bucket logits. -/
theorem keys_row (t : Fin cfg0.N) (n : Fin 4000) (hn : t.val * 4000 + n.val < 100000) :
    row (blk0 (V0 m) c 0 t : FVec Ideal S4000x64 .f32) n = row (K m c) (⟨t.val * 4000 + n.val, hn⟩ : Fin 100000) :=
  funext fun k => keys (V0 m) c t n k hn

/-- A block's part of the sums and of the counts. -/
theorem sums_part (t : Fin cfg0.N) (b : Fin 64) (d : Fin 128) :
    ∑ x : Fin 4000, mark (row (blk0 (V0 m) c 0 t : FVec Ideal S4000x64 .f32) x) b * ((blk0 (V0 m) c 1 t : FVec Ideal S4000x128 .f32) (ix2 x d) : EReal)
      = part (fun n => mark (row (K m c) n) b * (Vl m c (ix2 n d) : EReal)) t.val := by
  have ht := points0 t
  rw [part, dif_pos ht]
  refine Finset.sum_congr rfl fun n _ => ?_
  rw [keys_row m c t n (by omega)]
  exact congrArg _ (values (V0 m) c t n d (by omega))
theorem counts_part (t : Fin cfg0.N) (b : Fin 64) :
    ∑ x : Fin 4000, mark (row (blk0 (V0 m) c 0 t : FVec Ideal S4000x64 .f32) x) b = part (fun n => mark (row (K m c) n) b) t.val := by
  have ht := points0 t
  rw [part, dif_pos ht]
  exact Finset.sum_congr rfl fun n _ => by rw [keys_row m c t n (by omega)]

/-- The sums and counts once every row is collected. -/
theorem sums_all (b : Fin 64) (d : Fin 128) :
    (sumsTo (V0 m) c 24 : FVec Ideal S64x128 .f32) (ix2 b d) = ∑ n : Fin 100000, mark (row (K m c) n) b * (Vl m c (ix2 n d) : EReal) := by
  refine gathered (fun n => mark (row (K m c) n) b * (Vl m c (ix2 n d) : EReal)) (fun n => (sumsTo (V0 m) c n : FVec Ideal S64x128 .f32) (ix2 b d)) ?_ fun t ht => ?_
  · exact (sums _ _ b d).trans (sums_part m c ⟨0, by decide⟩ b d)
  · have hN : t + 1 < cfg0.N := lt_of_lt_of_le ht (by decide)
    show (sumsTo (V0 m) c (t + 1) : FVec Ideal S64x128 .f32) (ix2 b d) = _
    rw [sumsTo, dif_pos hN]
    exact (sums_add _ _ _ b d).trans (congrArg _ (sums_part m c ⟨t + 1, hN⟩ b d))
theorem counts_all (b : Fin 64) (d : Fin 128) :
    (countsTo (V0 m) c 24 : FVec Ideal S64x128 .f32) (ix2 b d) = ∑ n : Fin 100000, mark (row (K m c) n) b := by
  refine gathered (fun n => mark (row (K m c) n) b) (fun n => (countsTo (V0 m) c n : FVec Ideal S64x128 .f32) (ix2 b d)) ?_ fun t ht => ?_
  · exact (counts _ b d).trans (counts_part m c ⟨0, by decide⟩ b)
  · have hN : t + 1 < cfg0.N := lt_of_lt_of_le ht (by decide)
    show (countsTo (V0 m) c (t + 1) : FVec Ideal S64x128 .f32) (ix2 b d) = _
    rw [countsTo, dif_pos hN]
    exact (counts_add _ _ b d).trans (congrArg _ (counts_part m c ⟨t + 1, hN⟩ b))

/-- The last point alone sends the sums and the counts out. -/
theorem last_of_flush (t : Fin cfg0.N) (h : t.val % 25 = 24) : t.val = 24 := by
  have := points0 t
  omega

/-- The arrays of sums and of counts after the first call. -/
theorem sums_array : (dat0 (V0 m) c).arrAt 2 cfg0.N = (sumsTo (V0 m) c 24 : FVec Ideal S64x128 .f32) := by
  refine (dat0 (V0 m) c).arrAt_eq_of_covers 2 _ (by decide +kernel) fun t hf y => ?_
  have ht := last_of_flush t ((flush0_2 t).1 hf)
  blk_simp
  rw [after0_sums, ht]
  obtain ⟨b, d, rfl⟩ : ∃ (b : Fin 64) (d : Fin 128), y = ix2 b d := ⟨y 0, y 1, eq_ix2 y⟩
  exact congrArg (sumsTo (V0 m) c 24 : FVec Ideal S64x128 .f32) (place_sums t b d).symm
theorem counts_array : (dat0 (V0 m) c).arrAt 3 cfg0.N = (countsTo (V0 m) c 24 : FVec Ideal S64x128 .f32) := by
  refine (dat0 (V0 m) c).arrAt_eq_of_covers 3 _ (by decide +kernel) fun t hf y => ?_
  have ht := last_of_flush t ((flush0_3 t).1 hf)
  blk_simp
  rw [after0_counts, ht]
  obtain ⟨b, d, rfl⟩ : ∃ (b : Fin 64) (d : Fin 128), y = ix2 b d := ⟨y 0, y 1, eq_ix2 y⟩
  exact congrArg (countsTo (V0 m) c 24 : FVec Ideal S64x128 .f32) (place_counts t b d).symm

/-! ## What the second call finds -/

theorem mid_sums : Vmid m c main_call0_v0_0 = (sumsTo (V0 m) c 24 : FVec Ideal S64x128 .f32) :=
  (Pipeline.afterRegion_arr (dat0 (V0 m) c) (V0 m c) launch0.win.arr_inj 2).trans (sums_array m c)
theorem mid_counts : Vmid m c main_call0_v0_1 = (countsTo (V0 m) c 24 : FVec Ideal S64x128 .f32) :=
  (Pipeline.afterRegion_arr (dat0 (V0 m) c) (V0 m c) launch0.win.arr_inj 3).trans (counts_array m c)
/-- The arguments are as launched. -/
theorem mid_keeps (r : Ref sig .tc) (h : ∀ w, Pipeline.arrRef spec0 w = r → (cfg0.win w).isOut = false) : Vmid m c r = m ((c.tc : Thread nD τ).loc r) :=
  Pipeline.afterRegion_keeps (dat0 (V0 m) c) (V0 m c) launch0.win.arr_inj (A0_eq (V0 m) c) r h
theorem mid_rows : Vmid m c main_arg0 = H m c := mid_keeps m c main_arg0 (by decide)
theorem mid_queries : Vmid m c main_arg2 = Q m c := mid_keeps m c main_arg2 (by decide)
theorem mid_projection : Vmid m c main_arg4 = W m c := mid_keeps m c main_arg4 (by decide)

/-- A bucket's prototype: the mean of its value rows, or of all of them where it has none. -/
def prototype (b : Fin 64) (d : Fin 128) : EReal :=
  if (∑ n, mark (row (K m c) n) b) = 0 then (∑ n : Fin 100000, (Vl m c (ix2 n d) : EReal)) * ((1 / 100000 : ℝ) : EReal)
  else Ideal.div (∑ n, mark (row (K m c) n) b * (Vl m c (ix2 n d) : EReal)) (max 1 (∑ n, mark (row (K m c) n) b))

/-- The bucket sums of a column, summed, are the column's sum. -/
theorem column_total (A : FVec Ideal S64x128 .f32)
    (hA : ∀ (k : Fin 64) (x : Fin 128), (A (ix2 k x) : EReal) = ∑ n : Fin 100000, mark (row (K m c) n) k * (Vl m c (ix2 n x) : EReal)) (x : Fin 128) :
    (∑ k : Fin 64, (A (ix2 k x) : EReal)) = ∑ n : Fin 100000, (Vl m c (ix2 n x) : EReal) :=
  (Finset.sum_congr rfl fun k _ => hA k x).trans (Cert.Refine.Entropy.sum_marks (fun n => row (K m c) n) fun n => Vl m c (ix2 n x))

/-- The projected prototypes. -/
theorem projAll_apply (b : Fin 64) (d : Fin 128) :
    (projAll (Vmid m) c : FVec Ideal S64x128 .f32) (ix2 b d) = ∑ x : Fin 128, prototype m c b x * (W m c (ix2 d x) : EReal) := by
  have hs : ∀ (k : Fin 64) (x : Fin 128), (blk1 (Vmid m) c 0 first1 : FVec Ideal S64x128 .f32) (ix2 k x) = ∑ n : Fin 100000, mark (row (K m c) n) k * (Vl m c (ix2 n x) : EReal) := fun k x =>
    (sums_found (Vmid m) c first1 k x).trans ((congrFun (mid_sums m c) (ix2 k x)).trans (sums_all m c k x))
  have hc : ∀ x : Fin 128, (blk1 (Vmid m) c 1 first1 : FVec Ideal S64x128 .f32) (ix2 b x) = ∑ n : Fin 100000, mark (row (K m c) n) b := fun x =>
    (counts_found (Vmid m) c first1 b x).trans ((congrFun (mid_counts m c) (ix2 b x)).trans (counts_all m c b x))
  refine (projected _ _ _ b d).trans (Finset.sum_congr rfl fun x _ => congrArg₂ _ ?_ ((projection (Vmid m) c first1 d x).trans (congrFun (mid_projection m c) (ix2 d x))))
  rw [hc x, hs b x]
  unfold prototype
  rw [column_total m c (blk1 (Vmid m) c 0 first1) hs x]

end Cert.TwoValue

end
-- ==== Proof.TwoValue.Arrays.lean ====
module

public import proofs.«01_k».proof.Proof.TwoValue.Collected

/-! The two arrays the second call leaves, read at an index, and the kernel's two results. -/

@[expose] public section

set_option maxRecDepth 16384

noncomputable section

namespace Cert.TwoValue

open Idealize.ShloMosaic Idealize.ShloMosaic.TcCoe Cert.PlainIdeal Cert.PlainIdeal.Gen Cert.Refine.Spec Cert.Two

variable (m : (ℓ : Loc nD τ sig) → Buf (Elt Ideal) ℓ) (c : Dev nD)

/-- A row the kernel recovers: the feature row plus the gate times the weighted projected prototypes. -/
def recoveredAt (r : Fin 100000) (d : Fin 128) : EReal :=
  (H m c (ix2 r d) : EReal) + spread (row (Q m c) r) * ∑ x : Fin 64, share (row (Q m c) r) x * ((projAll (Vmid m) c : FVec Ideal S64x128 .f32) (ix2 x d) : EReal)
/-- All the rows, and the confidences as a column. -/
def recoveredAll : FVec Ideal ⟨2, ![100000, 128]⟩ .f32 := fun i => recoveredAt m c (i 0) (i 1)
def confidentAll : FVec Ideal ⟨2, ![100000, 1]⟩ .f32 := fun i => 1 - spread (row (Q m c) (i 0))

/-- A block's row of query logits. -/
theorem queries_row (t : Fin cfg1.N) (n : Fin 4000) (hn : t.val * 4000 + n.val < 100000) :
    row (blk1 (Vmid m) c 3 t : FVec Ideal S4000x64 .f32) n = row (Q m c) (⟨t.val * 4000 + n.val, hn⟩ : Fin 100000) :=
  funext fun k => (queries (Vmid m) c t n k hn).trans (congrFun (mid_queries m c) _)

/-- What a point leaves, read off all the rows and off all the confidences. -/
theorem rows_placed (t : Fin cfg1.N) (y : S4000x128.Idx) :
    k1_pay4 (F := Ideal) (blk1 (Vmid m) c 3 t) (projAll (Vmid m) c) (blk1 (Vmid m) c 4 t) y = recoveredAll m c ((win1_5.blk t).view.emb y) := by
  obtain ⟨n, d, rfl⟩ : ∃ (n : Fin 4000) (d : Fin 128), y = ix2 n d := ⟨y 0, y 1, eq_ix2 y⟩
  have hn : t.val * 4000 + n.val < 100000 := by have := points1 t; omega
  refine Eq.trans ?_ (congrArg (recoveredAll m c) (place_rows t n d hn).symm)
  refine (outs _ _ _ n d).trans ?_
  show _ = recoveredAt m c ⟨t.val * 4000 + n.val, hn⟩ d
  unfold recoveredAt
  rw [queries_row m c t n hn]
  exact congrArg (· + _) ((rows (Vmid m) c t n d hn).trans (congrFun (mid_rows m c) _))
theorem confidences_placed (t : Fin cfg1.N) (y : S4000x1.Idx) :
    k1_pay5 (F := Ideal) (blk1 (Vmid m) c 3 t) y = confidentAll m c ((win1_6.blk t).view.emb y) := by
  obtain ⟨n, d, rfl⟩ : ∃ (n : Fin 4000) (d : Fin 1), y = ix2 n d := ⟨y 0, y 1, eq_ix2 y⟩
  have hn : t.val * 4000 + n.val < 100000 := by have := points1 t; omega
  refine Eq.trans ?_ (congrArg (confidentAll m c) (place_confidences t n d hn).symm)
  refine (confs _ n d).trans ?_
  show _ = 1 - spread (row (Q m c) ⟨t.val * 4000 + n.val, hn⟩)
  rw [queries_row m c t n hn]

/-- The array of recovered rows after the second call. -/
theorem out_array : (dat1 (Vmid m) c).arrAt 5 cfg1.N = recoveredAll m c := by
  refine (dat1 (Vmid m) c).arrAt_eq_of_covers 5 _ (by decide +kernel) fun t hf y => ?_
  blk_simp
  rw [after1_out]
  exact rows_placed m c t y
/-- The array of confidences after the second call. -/
theorem conf_array : (dat1 (Vmid m) c).arrAt 6 cfg1.N = confidentAll m c := by
  refine (dat1 (Vmid m) c).arrAt_eq_of_covers 6 _ (by decide +kernel) fun t hf y => ?_
  blk_simp
  rw [after1_conf]
  exact confidences_placed m c t y

/-! ## The results -/

/-- The confidences as a list. -/
def confidentList : FVec Ideal ⟨1, ![100000]⟩ .f32 := fun i => 1 - spread (row (Q m c) (i 0))

/-- The column of confidences, flattened, is the list. -/
theorem flatten_column : shapeCast S100000 (confidentAll m c) shapeCasts_S100000x1_S100000 = confidentList m c := by
  funext i
  obtain ⟨r, rfl⟩ : ∃ r : Fin 100000, i = ix1 r := ⟨i 0, eq_ix1 i⟩
  have h : shapeCast S100000 (confidentAll m c) shapeCasts_S100000x1_S100000 (ix1 r) = confidentAll m c (ix2 r (0 : Fin 1)) := by
    pointwise
  exact h

/-- The first result at the end: the second call's array of rows. -/
theorem end_rows : Vend m c main_v0_0 = recoveredAll m c :=
  (StableHlo.after_of_writes_sub hostOps2 _ hostOps2_writes (by decide)).trans
    ((Pipeline.afterRegion_arr (dat1 (Vmid m) c) (Vmid m c) launch1.win.arr_inj 5).trans (out_array m c))

/-- The second result at the end: the second call's array of confidences, flattened. -/
theorem end_confidences : Vend m c main_v0_1 = confidentList m c := by
  have e : Vtop m c (Proc.devRef .tc main_call0_v1_1) = confidentAll m c :=
    (Pipeline.afterRegion_arr (dat1 (Vmid m) c) (Vmid m c) launch1.win.arr_inj 6).trans (conf_array m c)
  unfold Vend
  simp only [hostOps2, StableHlo.TRef.reshape]
  exact (StableHlo.reshape_result main_call0_v1_1 main_v0_1 rfl shapeCasts_S100000x1_S100000 (by decide) (by decide) _).trans
    ((congrArg (fun x : FVec Ideal S100000x1 .f32 => shapeCast S100000 x shapeCasts_S100000x1_S100000) e).trans (flatten_column m c))

/-- Every execution of the kernel ends with the recovered rows and their confidences, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = recoveredAll m c
      ∧ r.2.mem ((c.tc : Thread nD τ).loc main_v0_1) = confidentList m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_quiescent m ρ) (kernel_frame m ρ))
  have hb : ∀ r' : Ref sig .tc, r'.isScoped = false → r.2.mem ((c.tc : Thread nD τ).loc r') = Vend m c r' := fun r' hr =>
    h.1.1 c (Proc.devRef .tc r') (Finset.mem_filter.mpr ⟨StableHlo.devRef_mem_tcRefs r', by rw [show (Proc.devRef (τ := τ) .tc r').isScoped = r'.isScoped from rfl, hr]; decide⟩)
  exact ⟨(hb main_v0_0 rfl).trans (end_rows m c), (hb main_v0_1 rfl).trans (end_confidences m c), h.2.1 c⟩

end Cert.TwoValue

end
-- ==== Proof.TwoValue.Pre.lean ====
module

public import proofs.«01_k».proof.Proof.Value.Pre
public import proofs.«01_k».proof.Pre_finite

/-! What the two calls' precondition says of the arguments: the value rows, the projection and the query logits are
finite. -/

@[expose] public section

set_option maxRecDepth 16384

noncomputable section

namespace Cert.TwoValue.Pre

open Idealize.ShloMosaic
open Cert.Refine.Pre (real_of_abs)

section Split
variable {F : FTy → Type} [FloatOps F] [hP : Cert.Pre_finite.Facts]
open Cert.Pre_finite Cert.Pre_finite.Facts

/-- Whether every entry is finite. -/
def finiteTall (V : FVec F S100000x128 .f32) : IVec S_ 1 :=
  Host.reduce IntOp.andi (cmpf .olt (Host.absf V) (broadcastInDim S100000x128 ![] bcast_S_S100000x128 (constant S_ .f32 0x7F800000#32))) (constantI S_ 1 1#1) reducesTo_S100000x128_S_d0_1 h_S_
def finiteSquare (W : FVec F S128x128 .f32) : IVec S_ 1 :=
  Host.reduce IntOp.andi (cmpf .olt (Host.absf W) (broadcastInDim S128x128 ![] bcast_S_S128x128 (constant S_ .f32 0x7F800000#32))) (constantI S_ 1 1#1) reducesTo_S128x128_S_d0_1 h_S_
def finiteLogits (q : FVec F S100000x64 .f32) : IVec S_ 1 :=
  Host.reduce IntOp.andi (cmpf .olt (Host.absf q) (broadcastInDim S100000x64 ![] bcast_S_S100000x64 (constant S_ .f32 0x7F800000#32))) (constantI S_ 1 1#1) reducesTo_S100000x64_S_d0_1 h_S_

/-- The precondition is the conjunction of the three tests. -/
theorem split (h V : FVec F S100000x128 .f32) (q lk : FVec F S100000x64 .f32) (W : FVec F S128x128 .f32) :
    Cert.Pre_finite.fn h V q lk W = andi (andi (finiteTall V) (finiteSquare W)) (finiteLogits q) := rfl
end Split

section Read
variable [hP : Cert.Pre_finite.Facts]
open Cert.Pre_finite Cert.Pre_finite.Facts

/-- What the precondition says. -/
theorem reads (h V : FVec Ideal S100000x128 .f32) (q lk : FVec Ideal S100000x64 .f32) (W : FVec Ideal S128x128 .f32) (j : S_.Idx)
    (e : Cert.Pre_finite.fn (F := Ideal) h V q lk W j = 1#1) :
    (∀ i, ∃ a : ℝ, V i = (a : EReal)) ∧ (∀ i, ∃ a : ℝ, W i = (a : EReal)) ∧ ∀ i, ∃ a : ℝ, q i = (a : EReal) := by
  haveI : Subsingleton S_.Idx := ⟨fun a b => funext fun k => k.elim0⟩
  rw [split] at e
  obtain ⟨e1, e3⟩ := IntOp.andi_eq_one.1 e
  obtain ⟨e0, e2⟩ := IntOp.andi_eq_one.1 e1
  exact ⟨fun i => real_of_abs (V i) (Host.reduce_andi_all _ _ _ _ j e0 i), fun i => real_of_abs (W i) (Host.reduce_andi_all _ _ _ _ j e2 i),
    fun i => real_of_abs (q i) (Host.reduce_andi_all _ _ _ _ j e3 i)⟩
end Read

end Cert.TwoValue.Pre

end
-- ==== Proof.TwoValue.Agree.lean ====
module

public import proofs.«01_k».proof.Proof.TwoValue.Arrays
public import proofs.«01_k».proof.Proof.TwoValue.Pre
public import proofs.«01_k».proof.Proof.Value.Agree

/-! The two calls' results are the reference's where the value rows, the projection and the query logits are finite. -/

@[expose] public section

set_option maxRecDepth 16384

noncomputable section

namespace Cert.TwoValue

open Idealize.ShloMosaic Idealize.ShloMosaic.TcCoe Cert.PlainIdeal Cert.PlainIdeal.Gen Cert.Refine.Spec Cert.Two
open Cert.Refine.Payload (weight total)

variable (m : (ℓ : Loc nD τ sig) → Buf (Elt Ideal) ℓ) (c : Dev nD)

/-- The reference's prototypes are the kernel's. -/
theorem prototypes (b : Fin 64) (d : Fin 128) : Cert.Refine.Ref.proto (K m c) (Vl m c) (ix2 b d) = prototype m c b d := by
  rw [Cert.Refine.RefRead.proto_apply, Cert.Refine.RefRead.tally_apply, Cert.Refine.RefRead.segment_apply, Cert.Refine.RefRead.grand_apply, Cert.Refine.Agree.div_rows]
  rfl

/-- A prototype of finite value rows is finite. -/
theorem prototype_real (hV : ∀ i, ∃ a : ℝ, Vl m c i = (a : EReal)) (b : Fin 64) (d : Fin 128) : ∃ T : ℝ, prototype m c b d = (T : EReal) := by
  choose y hy using fun n : Fin 100000 => hV (ix2 n d)
  obtain ⟨T, hT⟩ := Cert.Refine.Entropy.proto_real (fun n => row (K m c) n) y b
  refine ⟨T, Eq.trans ?_ hT⟩
  unfold prototype
  simp only [hy]

/-- The reference's softmax weights and entropy over the logarithm of 64 are the kernel's. -/
theorem reference_share (r : Fin 100000) (b : Fin 64) : Cert.Refine.Ref.probs (Q m c) (ix2 r b) = share (row (Q m c) r) b := by
  rw [Cert.Refine.RefRead.probs_apply]
  simp only [Cert.Refine.RefRead.expo_apply]
  rfl
theorem reference_spread (r : Fin 100000) : Cert.Refine.Ref.spread (Q m c) (ix1 r) = spread (row (Q m c) r) := by
  have h64 : Real.log 64 ≠ 0 := (Real.log_pos (by norm_num)).ne'
  have hl : Ideal.log ((64 : ℝ) : EReal) = ((Real.log 64 : ℝ) : EReal) := by rw [Ideal.log_coe, if_neg (by norm_num)]
  rw [Cert.Refine.RefRead.spread_apply]
  unfold spread
  rw [Cert.Refine.RefRead.ofBits_buckets, hl, Ideal.div_coe h64, Ideal.div_coe h64, one_mul, zero_sub]
  simp only [reference_share]

/-- One less one less a number is the number, infinite or not. -/
theorem one_sub_one_sub (g : EReal) : (1 : EReal) - (1 - g) = g := by
  induction g with
  | bot => rfl
  | top => rfl
  | coe g => exact Cert.Refine.Entropy.one_sub_one_sub g

/-- A softmax weight of a finite row is finite. -/
theorem share_real (x : Fin 64 → ℝ) (r : Fin 64 → EReal) (hr : ∀ k, r k = (x k : EReal)) (b : Fin 64) : ∃ p : ℝ, share r b = (p : EReal) := by
  obtain ⟨M, hM⟩ := Cert.Refine.Entropy.peak_real (x := x)
  obtain rfl : r = fun k => ((x k : ℝ) : EReal) := funext hr
  have hw : ∀ k, weight (fun k => ((x k : ℝ) : EReal)) k = ((Real.exp (x k - M) : ℝ) : EReal) := fun k => by
    unfold weight
    rw [hM, ← EReal.coe_sub, Ideal.exp_coe]
  have ht : total (fun k => ((x k : ℝ) : EReal)) = ((∑ k, Real.exp (x k - M) : ℝ) : EReal) := by
    rw [← Cert.Refine.Entropy.coe_sum]
    exact Finset.sum_congr rfl fun k _ => hw k
  have hs : 0 < ∑ k, Real.exp (x k - M) := Finset.sum_pos (fun k _ => Real.exp_pos _) ⟨0, Finset.mem_univ _⟩
  refine ⟨Real.exp (x b - M) * (1 / ∑ k, Real.exp (x k - M)), ?_⟩
  unfold share
  rw [ht, hw, Ideal.div_coe hs.ne', EReal.coe_mul]

/-- The second result. -/
theorem confidences : Cert.Refine.Ref.confidence (Q m c) = confidentList m c := by
  funext i
  obtain ⟨r, rfl⟩ : ∃ r : Fin 100000, i = ix1 r := ⟨i 0, eq_ix1 i⟩
  exact (Cert.Refine.RefRead.confidence_apply (Q m c) r).trans (congrArg (1 - ·) (reference_spread m c r))

/-- The first result. -/
theorem outputs (hV : ∀ i, ∃ a : ℝ, Vl m c i = (a : EReal)) (hW : ∀ i, ∃ a : ℝ, W m c i = (a : EReal))
    (hQ : ∀ i, ∃ a : ℝ, Q m c i = (a : EReal)) :
    Cert.Refine.Ref.output (H m c) (Vl m c) (Q m c) (K m c) (W m c) = recoveredAll m c := by
  funext i
  obtain ⟨r, d, rfl⟩ : ∃ (r : Fin 100000) (d : Fin 128), i = ix2 r d := ⟨i 0, i 1, eq_ix2 i⟩
  choose x hx using fun k : Fin 64 => hQ (ix2 r k)
  choose p hp using share_real x (row (Q m c) r) hx
  choose T hT using prototype_real m c hV
  choose w hw using fun x : Fin 128 => hW (ix2 d x)
  refine (Cert.Refine.RefRead.output_apply (K m c) (Q m c) (Vl m c) (H m c) (W m c) r d).trans ?_
  show _ = recoveredAt m c r d
  unfold recoveredAt
  rw [Cert.Refine.RefRead.confidence_apply, one_sub_one_sub, reference_spread]
  refine congrArg _ (congrArg _ ?_)
  have eL : (∑ x : Fin 128, (∑ b : Fin 64, Cert.Refine.Ref.probs (Q m c) (ix2 r b) * Cert.Refine.Ref.proto (K m c) (Vl m c) (ix2 b x)) * W m c (ix2 d x))
      = ∑ x : Fin 128, (∑ b : Fin 64, ((p b : ℝ) : EReal) * ((T b x : ℝ) : EReal)) * ((w x : ℝ) : EReal) :=
    Finset.sum_congr rfl fun x _ => congrArg₂ _ (Finset.sum_congr rfl fun b _ => congrArg₂ _ ((reference_share m c r b).trans (hp b)) ((prototypes m c b x).trans (hT b x))) (hw x)
  have eR : (∑ b : Fin 64, share (row (Q m c) r) b * ((projAll (Vmid m) c : FVec Ideal S64x128 .f32) (ix2 b d) : EReal))
      = ∑ b : Fin 64, ((p b : ℝ) : EReal) * ∑ x : Fin 128, ((T b x : ℝ) : EReal) * ((w x : ℝ) : EReal) :=
    Finset.sum_congr rfl fun b _ => congrArg₂ _ (hp b) ((projAll_apply m c b d).trans (Finset.sum_congr rfl fun x _ => congrArg₂ _ (hT b x) (hw x)))
  exact eL.trans ((Cert.Refine.Entropy.reassoc p T w).trans eR.symm)

end Cert.TwoValue

end
-- ==== Proof.lean ====
/- The proof of the claims, for the kernel in two calls and for the kernel in one: each program runs to its end with its
   arguments unchanged and every semaphore counter at zero, the idealized kernels' named constants are what their names say,
   and where its precondition holds each idealized kernel's two results are the reference's. -/
module

public import proofs.«01_k».proof.Defs
public import proofs.«01_k».proof.Proof.Gen.Plain
public import proofs.«01_k».proof.Proof.Gen.Plain.Skeleton
public import proofs.«01_k».proof.Proof.Gen.Plain.Launch
public import proofs.«01_k».proof.Proof.Gen.Plain.Points
public import proofs.«01_k».proof.Proof.Gen.Plain.Regions
public import proofs.«01_k».proof.Proof.Gen.PlainIdeal
public import proofs.«01_k».proof.Proof.Gen.PlainIdeal.Skeleton
public import proofs.«01_k».proof.Proof.Gen.PlainIdeal.Launch
public import proofs.«01_k».proof.Proof.Gen.PlainIdeal.Points
public import proofs.«01_k».proof.Proof.Gen.PlainIdeal.Regions
public import proofs.«01_k».proof.Proof.Gen.Pre_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_clip_idle
public import proofs.«01_k».proof.Proof.Run.Launch
public import proofs.«01_k».proof.Proof.Float.Launch
public import proofs.«01_k».proof.Proof.Ref.Run
public import proofs.«01_k».proof.Proof.Value.Agree
public import proofs.«01_k».proof.Proof.Two.Run
public import proofs.«01_k».proof.Proof.TwoFloat.Run
public import proofs.«01_k».proof.Proof.TwoValue.Agree
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel (hKernel := Cert.Kernel.Gen.facts) := fun m ρ _ => Cert.Float.kernel_frame m ρ

/-- The idealized kernel's frame. -/
theorem frame_kernelIdeal : Cert.quiescent_KernelIdeal (hKernelIdeal := Cert.KernelIdeal.Gen.facts) :=
  fun m ρ _ => Cert.Refine.kernel_frame m ρ

/-- The reference's frame. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.Refine.Ref.run (F := Ideal) m ρ)

/-- The idealized kernel's two named constants: the reciprocals of 100000 and of the logarithm of 64. -/
theorem constants_named : Cert.preserves_Kernel_KernelIdeal :=
  ⟨IdealRules.named_const.statement Cert.KernelIdeal.κ "inv_n" .f32 0x3727C5AC#32 ((1 / 100000 : ℝ) : EReal) rfl,
    IdealRules.named_const.statement Cert.KernelIdeal.κ "inv_log_b" .f32 0x3E76384F#32 (((Real.log 64)⁻¹ : ℝ) : EReal) rfl⟩

/-- The frames once more, for memories that meet the precondition. -/
theorem frame_kernelIdeal_pre : Cert.quiescent_KernelIdeal_pre_clip_idle (hKernelIdeal := Cert.KernelIdeal.Gen.facts) (hPre_clip_idle := Cert.Pre_clip_idle.Gen.facts) :=
  fun m ρ _ => Cert.Refine.kernel_frame m ρ
theorem frame_referenceIdeal_pre : Cert.quiescent_ReferenceIdeal_pre_clip_idle (hReferenceIdeal := Cert.ReferenceIdeal.Gen.facts) (hPre_clip_idle := Cert.Pre_clip_idle.Gen.facts) :=
  fun m ρ _ => frame_referenceIdeal m ρ trivial

/-- From memories that meet the precondition and hold the same arguments, the idealized kernel and the reference leave
    the same recovered rows and the same confidences. -/
theorem results_agree : Cert.algebraic_KernelIdeal_ReferenceIdeal_pre_clip_idle (hKernelIdeal := Cert.KernelIdeal.Gen.facts)
    (hReferenceIdeal := Cert.ReferenceIdeal.Gen.facts) (hPre_clip_idle := Cert.Pre_clip_idle.Gen.facts) := by
  intro m g m' g' hpre hargs
  refine ⟨fun c => Cert.Refine.Arrays.recoveredAll m c, fun c => Cert.Refine.Arrays.confidentList m c, Cert.Refine.Arrays.run m g,
    (θ_run Cert.ReferenceIdeal.defs _ _).mono (fun r h c => ?_) (Cert.Refine.Ref.run (F := Ideal) m' g')⟩
  obtain ⟨h1, h2, h3⟩ := h c
  obtain ⟨a0, a1, a2, a3, a4⟩ := hargs c
  obtain ⟨hV, hW, hQ, hP⟩ := Cert.Refine.Pre.reads _ _ _ _ _ (fun k => k.elim0) (congrFun (hpre c) _)
  refine ⟨h1.trans ?_, h2.trans ?_, h3⟩
  · rw [a0, a1, a2, a3, a4]
    exact Cert.Refine.Agree.outputs m c hV hW hQ hP
  · rw [a2]
    exact Cert.Refine.Agree.confidences m c hQ hP

/-! ## The two calls -/

/-- The frames of the two calls, of the program as it is and idealized. -/
theorem frame_plain : Cert.quiescent_Plain (hPlain := Cert.Plain.Gen.facts) := fun m ρ _ => Cert.TwoFloat.kernel_frame m ρ
theorem frame_plainIdeal : Cert.quiescent_PlainIdeal (hPlainIdeal := Cert.PlainIdeal.Gen.facts) := fun m ρ _ => Cert.Two.kernel_frame m ρ

/-- The idealized two calls' named constant: the reciprocal of 100000. -/
theorem constant_named : Cert.preserves_Plain_PlainIdeal :=
  IdealRules.named_const.statement Cert.PlainIdeal.κ "inv_n" .f32 0x3727C5AC#32 ((1 / 100000 : ℝ) : EReal) rfl

/-- The frames once more, for memories that meet the two calls' precondition. -/
theorem frame_plainIdeal_pre : Cert.quiescent_PlainIdeal_pre_finite (hPlainIdeal := Cert.PlainIdeal.Gen.facts) (hPre_finite := Cert.Pre_finite.Gen.facts) :=
  fun m ρ _ => Cert.Two.kernel_frame m ρ
theorem frame_referenceIdeal_pre_finite : Cert.quiescent_ReferenceIdeal_pre_finite (hReferenceIdeal := Cert.ReferenceIdeal.Gen.facts) (hPre_finite := Cert.Pre_finite.Gen.facts) :=
  fun m ρ _ => frame_referenceIdeal m ρ trivial

/-- From memories that meet the precondition and hold the same arguments, the idealized two calls and the reference leave
    the same recovered rows and the same confidences. -/
theorem plain_results_agree : Cert.algebraic_PlainIdeal_ReferenceIdeal_pre_finite (hPlainIdeal := Cert.PlainIdeal.Gen.facts)
    (hReferenceIdeal := Cert.ReferenceIdeal.Gen.facts) (hPre_finite := Cert.Pre_finite.Gen.facts) := by
  intro m g m' g' hpre hargs
  refine ⟨fun c => Cert.TwoValue.recoveredAll m c, fun c => Cert.TwoValue.confidentList m c, Cert.TwoValue.run m g,
    (θ_run Cert.ReferenceIdeal.defs _ _).mono (fun r h c => ?_) (Cert.Refine.Ref.run (F := Ideal) m' g')⟩
  obtain ⟨h1, h2, h3⟩ := h c
  obtain ⟨a0, a1, a2, a3, a4⟩ := hargs c
  obtain ⟨hV, hW, hQ⟩ := Cert.TwoValue.Pre.reads _ _ _ _ _ (fun k => k.elim0) (congrFun (hpre c) _)
  refine ⟨h1.trans ?_, h2.trans ?_, h3⟩
  · rw [a0, a1, a2, a3, a4]
    exact Cert.TwoValue.outputs m c hV hW hQ
  · rw [a2]
    exact Cert.TwoValue.confidences m c

theorem claim : Cert.Claim :=
  ⟨Cert.Plain.Gen.facts, Cert.PlainIdeal.Gen.facts, Cert.Kernel.Gen.facts, Cert.KernelIdeal.Gen.facts, Cert.ReferenceIdeal.Gen.facts,
    Cert.Pre_finite.Gen.facts, Cert.Pre_clip_idle.Gen.facts,
    frame_plain, frame_plainIdeal, frame_plainIdeal_pre, frame_kernel, frame_kernelIdeal, frame_kernelIdeal_pre,
    frame_referenceIdeal, frame_referenceIdeal_pre_finite, frame_referenceIdeal_pre, constant_named, constants_named,
    plain_results_agree, results_agree⟩

end Cert.Proof

end
